-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_below_inf [hPre_labels_below_inf : Cert.Pre_labels_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_labels_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_below_inf [hPre_labels_below_inf : Cert.Pre_labels_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_below_inf [hKernelIdeal : Cert.KernelIdeal.Facts] [hPre_labels_below_inf : Cert.Pre_labels_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_below_inf [hReferenceIdeal : Cert.ReferenceIdeal.Facts] [hPre_labels_below_inf : Cert.Pre_labels_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_below_inf [hKernelIdeal : Cert.KernelIdeal.Facts] [hReferenceIdeal : Cert.ReferenceIdeal.Facts] [hPre_labels_below_inf : Cert.Pre_labels_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)) (v7 : (c : Dev Cert.KernelIdeal.nD) → Buf (Elt Ideal) ((c.tc : Thread Cert.KernelIdeal.nD Cert.KernelIdeal.τ).loc Cert.KernelIdeal.main_v1_7)) (v8 : (c : Dev Cert.KernelIdeal.nD) → Buf (Elt Ideal) ((c.tc : Thread Cert.KernelIdeal.nD Cert.KernelIdeal.τ).loc Cert.KernelIdeal.main_v1_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_v1_7) = v7 c
          ∧ r.2.mem ((c.tc : Thread Cert.KernelIdeal.nD Cert.KernelIdeal.τ).loc Cert.KernelIdeal.main_v1_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v164) = v4 c
          ∧ r.2.mem ((c.tc : Thread Cert.ReferenceIdeal.nD Cert.ReferenceIdeal.τ).loc Cert.ReferenceIdeal.main_v166) = v5 c
          ∧ r.2.mem ((c.tc : Thread Cert.ReferenceIdeal.nD Cert.ReferenceIdeal.τ).loc Cert.ReferenceIdeal.main_v168) = v6 c
          ∧ r.2.mem ((c.tc : Thread Cert.ReferenceIdeal.nD Cert.ReferenceIdeal.τ).loc Cert.ReferenceIdeal.main_v170) = v7 c
          ∧ r.2.mem ((c.tc : Thread Cert.ReferenceIdeal.nD Cert.ReferenceIdeal.τ).loc Cert.ReferenceIdeal.main_v172) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_below_inf : Cert.Pre_labels_below_inf.Facts),
    quiescent_Kernel (hKernel := hKernel)
    ∧ quiescent_KernelIdeal (hKernelIdeal := hKernelIdeal)
    ∧ quiescent_KernelIdeal_pre_labels_below_inf (hKernelIdeal := hKernelIdeal) (hPre_labels_below_inf := hPre_labels_below_inf)
    ∧ quiescent_ReferenceIdeal (hReferenceIdeal := hReferenceIdeal)
    ∧ quiescent_ReferenceIdeal_pre_labels_below_inf (hReferenceIdeal := hReferenceIdeal) (hPre_labels_below_inf := hPre_labels_below_inf)
    ∧ preserves_Kernel_KernelIdeal
    ∧ algebraic_KernelIdeal_ReferenceIdeal_pre_labels_below_inf (hKernelIdeal := hKernelIdeal) (hReferenceIdeal := hReferenceIdeal) (hPre_labels_below_inf := hPre_labels_below_inf)
-- ==== Pre_labels_below_inf.lean ====
abbrev S8x100x5 : Shape := ⟨3, ![8, 100, 5]⟩
abbrev S20000x4 : Shape := ⟨2, ![20000, 4]⟩
abbrev S_ : Shape := ⟨0, ![]⟩

class Facts : Prop where
  bcast_S_S8x100x5 : S_.BroadcastsInDim S8x100x5 (![] : Fin 0 → Fin S8x100x5.rank)
  reducesTo_S8x100x5_S_d0_1_2 : S8x100x5.ReducesTo [0, 1, 2] S_
  h_S_ : 0 < S_.numel

variable [Facts]

def fn {F : FTy → Type} [FloatOps F] (main_arg0 : FVec F S8x100x5 .f32) (main_arg1 : FVec F S20000x4 .f32) : IVec S_ 1 :=
  let main_cst : FVec F S_ .f32 := constant S_ .f32 0x7F800000#32
  let main_v0 : FVec F S8x100x5 .f32 := broadcastInDim S8x100x5 ![] bcast_S_S8x100x5 main_cst
  let main_v1 : IVec S8x100x5 1 := cmpf .olt main_arg0 main_v0
  let main_c : IVec S_ 1 := constantI S_ 1 1#1
  let main_v2 : IVec S_ 1 := (fun x v => Host.reduce IntOp.andi x v reducesTo_S8x100x5_S_d0_1_2 h_S_) main_v1 main_c
  main_v2
-- ==== Kernel.lean ====
abbrev S8x100x5 : Shape := ⟨3, ![8, 100, 5]⟩
abbrev S20000x4 : Shape := ⟨2, ![20000, 4]⟩
abbrev S4x20000 : Shape := ⟨2, ![4, 20000]⟩
abbrev S8x5x20000 : Shape := ⟨3, ![8, 5, 20000]⟩
abbrev S101x20000 : Shape := ⟨2, ![101, 20000]⟩
abbrev S4x4096 : Shape := ⟨2, ![4, 4096]⟩
abbrev S8x5x4096 : Shape := ⟨3, ![8, 5, 4096]⟩
abbrev S101x4096 : Shape := ⟨2, ![101, 4096]⟩
abbrev S1x4096 : Shape := ⟨2, ![1, 4096]⟩
abbrev S1x100x5 : Shape := ⟨3, ![1, 100, 5]⟩
abbrev S100x5 : Shape := ⟨2, ![100, 5]⟩
abbrev S100x1 : Shape := ⟨2, ![100, 1]⟩
abbrev S1x5 : Shape := ⟨2, ![1, 5]⟩
abbrev S101x5 : Shape := ⟨2, ![101, 5]⟩
abbrev S101x1 : Shape := ⟨2, ![101, 1]⟩
abbrev S101x11 : Shape := ⟨2, ![101, 11]⟩
abbrev S4096 : Shape := ⟨1, ![4096]⟩
abbrev S11x4096 : Shape := ⟨2, ![11, 4096]⟩
abbrev S5x4096 : Shape := ⟨2, ![5, 4096]⟩
abbrev S1x5x4096 : Shape := ⟨3, ![1, 5, 4096]⟩
abbrev S1x1x4096 : Shape := ⟨3, ![1, 1, 4096]⟩
abbrev S1 : Shape := ⟨1, ![1]⟩
abbrev S1x1x1 : Shape := ⟨3, ![1, 1, 1]⟩
abbrev S101x10 : Shape := ⟨2, ![101, 10]⟩
abbrev S10x4096 : Shape := ⟨2, ![10, 4096]⟩
abbrev S8x20000x5 : Shape := ⟨3, ![8, 20000, 5]⟩

abbrev nBuf : Space → Nat
  | .hbm => 13
  | .vmem => 21
  | .smem => 0
  | _ => 0

abbrev bufTy : (tb : Table) → Fin (tcTables nBuf tb) → BufTy
  | .hbm, ⟨0, _⟩ => ⟨S8x100x5, .f32⟩
  | .hbm, ⟨1, _⟩ => ⟨S20000x4, .f32⟩
  | .hbm, ⟨2, _⟩ => ⟨S4x20000, .f32⟩
  | .hbm, ⟨3, _⟩ => ⟨S8x5x20000, .f32⟩
  | .hbm, ⟨4, _⟩ => ⟨S101x20000, .f32⟩
  | .hbm, ⟨5, _⟩ => ⟨S101x20000, .f32⟩
  | .hbm, ⟨6, _⟩ => ⟨S101x20000, .f32⟩
  | .hbm, ⟨7, _⟩ => ⟨S101x20000, .f32⟩
  | .hbm, ⟨8, _⟩ => ⟨S101x20000, .f32⟩
  | .hbm, ⟨9, _⟩ => ⟨S101x20000, .f32⟩
  | .hbm, ⟨10, _⟩ => ⟨S101x20000, .f32⟩
  | .hbm, ⟨11, _⟩ => ⟨S101x20000, .f32⟩
  | .hbm, ⟨12, _⟩ => ⟨S8x20000x5, .f32⟩
  | .local _ .vmem, ⟨0, _⟩ => ⟨S8x100x5, .f32⟩
  | .local _ .vmem, ⟨1, _⟩ => ⟨S4x4096, .f32⟩
  | .local _ .vmem, ⟨2, _⟩ => ⟨S4x4096, .f32⟩
  | .local _ .vmem, ⟨3, _⟩ => ⟨S8x5x4096, .f32⟩
  | .local _ .vmem, ⟨4, _⟩ => ⟨S8x5x4096, .f32⟩
  | .local _ .vmem, ⟨5, _⟩ => ⟨S101x4096, .f32⟩
  | .local _ .vmem, ⟨6, _⟩ => ⟨S101x4096, .f32⟩
  | .local _ .vmem, ⟨7, _⟩ => ⟨S101x4096, .f32⟩
  | .local _ .vmem, ⟨8, _⟩ => ⟨S101x4096, .f32⟩
  | .local _ .vmem, ⟨9, _⟩ => ⟨S101x4096, .f32⟩
  | .local _ .vmem, ⟨10, _⟩ => ⟨S101x4096, .f32⟩
  | .local _ .vmem, ⟨11, _⟩ => ⟨S101x4096, .f32⟩
  | .local _ .vmem, ⟨12, _⟩ => ⟨S101x4096, .f32⟩
  | .local _ .vmem, ⟨13, _⟩ => ⟨S101x4096, .f32⟩
  | .local _ .vmem, ⟨14, _⟩ => ⟨S101x4096, .f32⟩
  | .local _ .vmem, ⟨15, _⟩ => ⟨S101x4096, .f32⟩
  | .local _ .vmem, ⟨16, _⟩ => ⟨S101x4096, .f32⟩
  | .local _ .vmem, ⟨17, _⟩ => ⟨S101x4096, .f32⟩
  | .local _ .vmem, ⟨18, _⟩ => ⟨S101x4096, .f32⟩
  | .local _ .vmem, ⟨19, _⟩ => ⟨S101x4096, .f32⟩
  | .local _ .vmem, ⟨20, _⟩ => ⟨S101x4096, .f32⟩
  | _, _ => ⟨S8x100x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev main_v1_8 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x100x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S101x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S101x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S101x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S101x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S101x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S101x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S101x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S101x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x100x5 : Shape := ⟨3, ![8, 100, 5]⟩
abbrev S20000x4 : Shape := ⟨2, ![20000, 4]⟩
abbrev S8x100x1 : Shape := ⟨3, ![8, 100, 1]⟩
abbrev S8x100 : Shape := ⟨2, ![8, 100]⟩
abbrev S_ : Shape := ⟨0, ![]⟩
abbrev S1x5 : Shape := ⟨2, ![1, 5]⟩
abbrev S8x1x5 : Shape := ⟨3, ![8, 1, 5]⟩
abbrev S8x101x5 : Shape := ⟨3, ![8, 101, 5]⟩
abbrev S8x101x4 : Shape := ⟨3, ![8, 101, 4]⟩
abbrev S8x101x1x4 : Shape := ⟨4, ![8, 101, 1, 4]⟩
abbrev S1x20000x4 : Shape := ⟨3, ![1, 20000, 4]⟩
abbrev S8x101x1x2 : Shape := ⟨4, ![8, 101, 1, 2]⟩
abbrev S1x20000x2 : Shape := ⟨3, ![1, 20000, 2]⟩
abbrev S1x1x20000x2 : Shape := ⟨4, ![1, 1, 20000, 2]⟩
abbrev S8x101x20000x2 : Shape := ⟨4, ![8, 101, 20000, 2]⟩
abbrev S8x101x20000x1 : Shape := ⟨4, ![8, 101, 20000, 1]⟩
abbrev S8x101x20000 : Shape := ⟨3, ![8, 101, 20000]⟩
abbrev S8x101x1x1 : Shape := ⟨4, ![8, 101, 1, 1]⟩
abbrev S8x101x1 : Shape := ⟨3, ![8, 101, 1]⟩
abbrev S1x20000x1 : Shape := ⟨3, ![1, 20000, 1]⟩
abbrev S1x20000 : Shape := ⟨2, ![1, 20000]⟩
abbrev S1x1x20000 : Shape := ⟨3, ![1, 1, 20000]⟩
abbrev S8x20000 : Shape := ⟨2, ![8, 20000]⟩
abbrev S20000 : Shape := ⟨1, ![20000]⟩
abbrev S8x20000x1 : Shape := ⟨3, ![8, 20000, 1]⟩
abbrev S1 : Shape := ⟨1, ![1]⟩
abbrev S1x1x1 : Shape := ⟨3, ![1, 1, 1]⟩
abbrev S8x20000x5 : Shape := ⟨3, ![8, 20000, 5]⟩
abbrev S8x20000x4 : Shape := ⟨3, ![8, 20000, 4]⟩
abbrev S20000x1 : Shape := ⟨2, ![20000, 1]⟩
abbrev S20000x2 : Shape := ⟨2, ![20000, 2]⟩
abbrev S1x20000x1x2 : Shape := ⟨4, ![1, 20000, 1, 2]⟩
abbrev S1x20000x2x2 : Shape := ⟨4, ![1, 20000, 2, 2]⟩
abbrev S8x20000x2 : Shape := ⟨3, ![8, 20000, 2]⟩
abbrev S1x101x20000 : Shape := ⟨3, ![1, 101, 20000]⟩
abbrev S101x20000 : Shape := ⟨2, ![101, 20000]⟩

abbrev nBuf : Space → Nat
  | .hbm => 220
  | .vmem => 0
  | .smem => 0
  | _ => 0

abbrev hbmTy0_0 (i : Nat) : BufTy := match i % 128 with
  | 0 => ⟨S8x100x5, .f32⟩
  | 1 => ⟨S20000x4, .f32⟩
  | 2 => ⟨S8x100x1, .f32⟩
  | 3 => ⟨S8x100, .f32⟩
  | 4 => ⟨S_, .f32⟩
  | 5 => ⟨S8x100, .f32⟩
  | 6 => ⟨S8x100, .i1⟩
  | 7 => ⟨S8x100, .f32⟩
  | 8 => ⟨S8x100x1, .f32⟩
  | 9 => ⟨S8x100x5, .f32⟩
  | 10 => ⟨S8x100x5, .f32⟩
  | 11 => ⟨S_, .f32⟩
  | 12 => ⟨S1x5, .f32⟩
  | 13 => ⟨S8x1x5, .f32⟩
  | 14 => ⟨S8x101x5, .f32⟩
  | 15 => ⟨S8x101x4, .f32⟩
  | 16 => ⟨S8x101x1x4, .f32⟩
  | 17 => ⟨S1x20000x4, .f32⟩
  | 18 => ⟨S8x101x1x2, .f32⟩
  | 19 => ⟨S1x20000x2, .f32⟩
  | 20 => ⟨S1x1x20000x2, .f32⟩
  | 21 => ⟨S8x101x20000x2, .f32⟩
  | 22 => ⟨S8x101x20000x2, .f32⟩
  | 23 => ⟨S8x101x20000x2, .f32⟩
  | 24 => ⟨S8x101x1x2, .f32⟩
  | 25 => ⟨S1x20000x2, .f32⟩
  | 26 => ⟨S1x1x20000x2, .f32⟩
  | 27 => ⟨S8x101x20000x2, .f32⟩
  | 28 => ⟨S8x101x20000x2, .f32⟩
  | 29 => ⟨S8x101x20000x2, .f32⟩
  | 30 => ⟨S8x101x20000x2, .f32⟩
  | 31 => ⟨S_, .f32⟩
  | 32 => ⟨S8x101x20000x2, .f32⟩
  | 33 => ⟨S8x101x20000x2, .f32⟩
  | 34 => ⟨S8x101x20000x1, .f32⟩
  | 35 => ⟨S8x101x20000, .f32⟩
  | 36 => ⟨S8x101x20000x1, .f32⟩
  | 37 => ⟨S8x101x20000, .f32⟩
  | 38 => ⟨S8x101x20000, .f32⟩
  | 39 => ⟨S8x101x1x1, .f32⟩
  | 40 => ⟨S8x101x1, .f32⟩
  | 41 => ⟨S8x101x1x1, .f32⟩
  | 42 => ⟨S8x101x1, .f32⟩
  | 43 => ⟨S8x101x1, .f32⟩
  | 44 => ⟨S8x101x1x1, .f32⟩
  | 45 => ⟨S8x101x1, .f32⟩
  | 46 => ⟨S8x101x1x1, .f32⟩
  | 47 => ⟨S8x101x1, .f32⟩
  | 48 => ⟨S8x101x1, .f32⟩
  | 49 => ⟨S8x101x1, .f32⟩
  | 50 => ⟨S1x20000x1, .f32⟩
  | 51 => ⟨S1x20000, .f32⟩
  | 52 => ⟨S1x20000x1, .f32⟩
  | 53 => ⟨S1x20000, .f32⟩
  | 54 => ⟨S1x20000, .f32⟩
  | 55 => ⟨S1x20000x1, .f32⟩
  | 56 => ⟨S1x20000, .f32⟩
  | 57 => ⟨S1x20000x1, .f32⟩
  | 58 => ⟨S1x20000, .f32⟩
  | 59 => ⟨S1x20000, .f32⟩
  | 60 => ⟨S1x20000, .f32⟩
  | 61 => ⟨S1x1x20000, .f32⟩
  | 62 => ⟨S8x101x20000, .f32⟩
  | 63 => ⟨S8x101x20000, .f32⟩
  | 64 => ⟨S8x101x20000, .f32⟩
  | 65 => ⟨S8x101x20000, .f32⟩
  | 66 => ⟨S8x101x20000, .f32⟩
  | 67 => ⟨S8x101x20000, .i32⟩
  | 68 => ⟨S_, .f32⟩
  | 69 => ⟨S_, .i32⟩
  | 70 => ⟨S8x20000, .f32⟩
  | 71 => ⟨S8x20000, .i32⟩
  | 72 => ⟨S_, .f32⟩
  | 73 => ⟨S8x20000, .f32⟩
  | 74 => ⟨S_, .f32⟩
  | 75 => ⟨S8x20000, .f32⟩
  | 76 => ⟨S8x20000, .i1⟩
  | 77 => ⟨S_, .f32⟩
  | 78 => ⟨S_, .f32⟩
  | 79 => ⟨S20000, .f32⟩
  | 80 => ⟨S20000, .f32⟩
  | 81 => ⟨S8x20000, .f32⟩
  | 82 => ⟨S8x20000, .f32⟩
  | 83 => ⟨S8x20000, .f32⟩
  | 84 => ⟨S8x20000, .i32⟩
  | 85 => ⟨S8x20000, .i32⟩
  | 86 => ⟨S_, .i32⟩
  | 87 => ⟨S8x20000, .i32⟩
  | 88 => ⟨S8x20000, .i1⟩
  | 89 => ⟨S_, .i32⟩
  | 90 => ⟨S8x20000, .i32⟩
  | 91 => ⟨S8x20000, .i32⟩
  | 92 => ⟨S8x20000, .i32⟩
  | 93 => ⟨S8x20000x1, .i32⟩
  | 94 => ⟨S1, .i32⟩
  | 95 => ⟨S_, .i32⟩
  | 96 => ⟨S8x20000x1, .i32⟩
  | 97 => ⟨S8x20000x1, .i1⟩
  | 98 => ⟨S1x1x1, .i32⟩
  | 99 => ⟨S8x20000x1, .i32⟩
  | 100 => ⟨S8x20000x1, .i1⟩
  | 101 => ⟨S8x20000x1, .i1⟩
  | 102 => ⟨S_, .i1⟩
  | 103 => ⟨S8x20000, .i1⟩
  | 104 => ⟨S8x20000x5, .f32⟩
  | 105 => ⟨S8x20000x5, .i1⟩
  | 106 => ⟨S_, .f32⟩
  | 107 => ⟨S8x20000x5, .f32⟩
  | 108 => ⟨S8x20000x5, .f32⟩
  | 109 => ⟨S8x20000x1, .f32⟩
  | 110 => ⟨S8x20000, .f32⟩
  | 111 => ⟨S_, .f32⟩
  | 112 => ⟨S8x20000, .f32⟩
  | 113 => ⟨S8x20000, .i1⟩
  | 114 => ⟨S8x20000x1, .i1⟩
  | 115 => ⟨S8x20000x4, .f32⟩
  | 116 => ⟨S8x20000x4, .i1⟩
  | 117 => ⟨S8x20000x4, .f32⟩
  | 118 => ⟨S8x20000x4, .f32⟩
  | 119 => ⟨S8x20000x1, .f32⟩
  | 120 => ⟨S8x20000, .f32⟩
  | 121 => ⟨S8x20000x1, .f32⟩
  | 122 => ⟨S8x20000, .f32⟩
  | 123 => ⟨S8x20000, .f32⟩
  | 124 => ⟨S_, .f32⟩
  | 125 => ⟨S8x20000, .f32⟩
  | 126 => ⟨S8x20000, .f32⟩
  | 127 => ⟨S8x20000x1, .f32⟩
  | _ => ⟨S8x100x5, .f32⟩

abbrev hbmTy0_1 (i : Nat) : BufTy := match i % 128 with
  | 0 => ⟨S8x20000, .f32⟩
  | 1 => ⟨S8x20000x1, .f32⟩
  | 2 => ⟨S8x20000, .f32⟩
  | 3 => ⟨S8x20000, .f32⟩
  | 4 => ⟨S_, .f32⟩
  | 5 => ⟨S8x20000, .f32⟩
  | 6 => ⟨S8x20000, .f32⟩
  | 7 => ⟨S8x20000x1, .f32⟩
  | 8 => ⟨S8x20000, .f32⟩
  | 9 => ⟨S8x20000x1, .f32⟩
  | 10 => ⟨S8x20000, .f32⟩
  | 11 => ⟨S8x20000, .f32⟩
  | 12 => ⟨S8x20000x1, .f32⟩
  | 13 => ⟨S8x20000, .f32⟩
  | 14 => ⟨S8x20000x1, .f32⟩
  | 15 => ⟨S8x20000, .f32⟩
  | 16 => ⟨S8x20000, .f32⟩
  | 17 => ⟨S8x20000x1, .f32⟩
  | 18 => ⟨S8x20000x1, .f32⟩
  | 19 => ⟨S8x20000x1, .f32⟩
  | 20 => ⟨S8x20000x1, .f32⟩
  | 21 => ⟨S8x20000x4, .f32⟩
  | 22 => ⟨S20000x1, .f32⟩
  | 23 => ⟨S20000, .f32⟩
  | 24 => ⟨S20000x1, .f32⟩
  | 25 => ⟨S20000, .f32⟩
  | 26 => ⟨S20000, .f32⟩
  | 27 => ⟨S_, .f32⟩
  | 28 => ⟨S20000, .f32⟩
  | 29 => ⟨S20000, .f32⟩
  | 30 => ⟨S20000x1, .f32⟩
  | 31 => ⟨S20000, .f32⟩
  | 32 => ⟨S20000x1, .f32⟩
  | 33 => ⟨S20000, .f32⟩
  | 34 => ⟨S20000, .f32⟩
  | 35 => ⟨S_, .f32⟩
  | 36 => ⟨S20000, .f32⟩
  | 37 => ⟨S20000, .f32⟩
  | 38 => ⟨S20000x1, .f32⟩
  | 39 => ⟨S20000, .f32⟩
  | 40 => ⟨S20000x1, .f32⟩
  | 41 => ⟨S20000, .f32⟩
  | 42 => ⟨S20000, .f32⟩
  | 43 => ⟨S20000x1, .f32⟩
  | 44 => ⟨S20000, .f32⟩
  | 45 => ⟨S20000x1, .f32⟩
  | 46 => ⟨S20000, .f32⟩
  | 47 => ⟨S20000, .f32⟩
  | 48 => ⟨S20000x1, .f32⟩
  | 49 => ⟨S20000x1, .f32⟩
  | 50 => ⟨S20000x1, .f32⟩
  | 51 => ⟨S20000x1, .f32⟩
  | 52 => ⟨S20000x4, .f32⟩
  | 53 => ⟨S20000x2, .f32⟩
  | 54 => ⟨S20000x2, .f32⟩
  | 55 => ⟨S_, .f32⟩
  | 56 => ⟨S20000x2, .f32⟩
  | 57 => ⟨S20000x4, .f32⟩
  | 58 => ⟨S1x20000x4, .f32⟩
  | 59 => ⟨S8x20000x4, .f32⟩
  | 60 => ⟨S8x20000x4, .f32⟩
  | 61 => ⟨S20000x2, .f32⟩
  | 62 => ⟨S1x20000x1x2, .f32⟩
  | 63 => ⟨S1x20000x2x2, .f32⟩
  | 64 => ⟨S20000x4, .f32⟩
  | 65 => ⟨S1x20000x4, .f32⟩
  | 66 => ⟨S8x20000x4, .f32⟩
  | 67 => ⟨S8x20000x4, .f32⟩
  | 68 => ⟨S8x20000x2, .f32⟩
  | 69 => ⟨S8x20000x2, .f32⟩
  | 70 => ⟨S8x20000x2, .f32⟩
  | 71 => ⟨S8x20000x4, .f32⟩
  | 72 => ⟨S8x20000, .f32⟩
  | 73 => ⟨S8x20000, .f32⟩
  | 74 => ⟨S8x20000x1, .f32⟩
  | 75 => ⟨S8x20000x5, .f32⟩
  | 76 => ⟨S1x101x20000, .f32⟩
  | 77 => ⟨S101x20000, .f32⟩
  | 78 => ⟨S1x101x20000, .f32⟩
  | 79 => ⟨S101x20000, .f32⟩
  | 80 => ⟨S1x101x20000, .f32⟩
  | 81 => ⟨S101x20000, .f32⟩
  | 82 => ⟨S1x101x20000, .f32⟩
  | 83 => ⟨S101x20000, .f32⟩
  | 84 => ⟨S1x101x20000, .f32⟩
  | 85 => ⟨S101x20000, .f32⟩
  | 86 => ⟨S1x101x20000, .f32⟩
  | 87 => ⟨S101x20000, .f32⟩
  | 88 => ⟨S1x101x20000, .f32⟩
  | 89 => ⟨S101x20000, .f32⟩
  | 90 => ⟨S1x101x20000, .f32⟩
  | 91 => ⟨S101x20000, .f32⟩
  | _ => ⟨S8x100x5, .f32⟩

abbrev hbmTy (i : Nat) : BufTy := match i / 128 with
  | 0 => hbmTy0_0 i
  | 1 => hbmTy0_1 i
  | _ => ⟨S8x100x5, .f32⟩

abbrev bufTy : (tb : Table) → Fin (tcTables nBuf tb) → BufTy
  | .hbm, ⟨i, _⟩ => hbmTy i
  | _, _ => ⟨S8x100x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_call0_v0 : Ref sig .tc := ⟨.hbm, 67, rfl⟩
abbrev main_call0_cst : Ref sig .tc := ⟨.hbm, 68, rfl⟩
abbrev main_call0_c : Ref sig .tc := ⟨.hbm, 69, rfl⟩
abbrev main_call0_v1_0 : Ref sig .tc := ⟨.hbm, 70, rfl⟩
abbrev main_v62 : Ref sig .tc := ⟨.hbm, 71, rfl⟩
abbrev main_cst_2 : Ref sig .tc := ⟨.hbm, 72, rfl⟩
abbrev main_v63 : Ref sig .tc := ⟨.hbm, 73, rfl⟩
abbrev main_cst_3 : Ref sig .tc := ⟨.hbm, 74, rfl⟩
abbrev main_v64 : Ref sig .tc := ⟨.hbm, 75, rfl⟩
abbrev main_v65 : Ref sig .tc := ⟨.hbm, 76, rfl⟩
abbrev main_cst_4 : Ref sig .tc := ⟨.hbm, 77, rfl⟩
abbrev main_cst_5 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_6 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_call3_v0 : Ref sig .tc := ⟨.hbm, 116, rfl⟩
abbrev main_call3_v1 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_7 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_8 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_9 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_10 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_11 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩

abbrev nD : Nat := 1
abbrev τ : Topo := Topo.v7x

variable {F : FTy → Type} [FloatOps F]
-- ==== Proof.Frame.lean ====
/- The kernel as compiled, its frame: the body runs at every grid point and leaves the labels and default boxes in place, so the
   program ends with its arguments unchanged. Nothing is said of the results here. -/
module

public import proofs.«01_k».proof.Proof.Gen.Kernel.Frame
public import proofs.«01_k».proof.Proof.Gen.Kernel.Points
public import proofs.«01_k».proof.Proof.Gen.Kernel.Skeleton
public import Idealize.ShloMosaic.Lib.Tactic
public import Idealize.ShloMosaic.Lib.WholeRead
public import Idealize.ShloMosaic.Lib.Pipeline.FrameBody

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

set_option maxHeartbeats 4000000 in
/-- The body at any staging buffers: it keeps the labels' and the default boxes'. -/
theorem sound (c : Dev nD) (E : Set ℕ) (i : grid0.Coords) (arg1 : Memref sig .tc .vmem S8x100x5 .f32) (harg1 : arg1.IsWhole) (arg2 : Memref sig .tc .vmem S4x4096 .f32) (harg2 : arg2.IsWhole) (arg3 : Memref sig .tc .vmem S8x5x4096 .f32) (harg3 : arg3.IsWhole) (arg4 : Memref sig .tc .vmem S101x4096 .f32) (harg4 : arg4.IsWhole) (arg5 : Memref sig .tc .vmem S101x4096 .f32) (harg5 : arg5.IsWhole) (arg6 : Memref sig .tc .vmem S101x4096 .f32) (harg6 : arg6.IsWhole) (arg7 : Memref sig .tc .vmem S101x4096 .f32) (harg7 : arg7.IsWhole) (arg8 : Memref sig .tc .vmem S101x4096 .f32) (harg8 : arg8.IsWhole) (arg9 : Memref sig .tc .vmem S101x4096 .f32) (harg9 : arg9.IsWhole) (arg10 : Memref sig .tc .vmem S101x4096 .f32) (harg10 : arg10.IsWhole) (arg11 : Memref sig .tc .vmem S101x4096 .f32) (harg11 : arg11.IsWhole)
    (X0 : S8x100x5.Idx → Elt F .f32) (X1 : S4x4096.Idx → Elt F .f32) (X2 : S8x5x4096.Idx → Elt F .f32) (X3 : S101x4096.Idx → Elt F .f32) (X4 : S101x4096.Idx → Elt F .f32) (X5 : S101x4096.Idx → Elt F .f32) (X6 : S101x4096.Idx → Elt F .f32) (X7 : S101x4096.Idx → Elt F .f32) (X8 : S101x4096.Idx → Elt F .f32) (X9 : S101x4096.Idx → Elt F .f32) (X10 : S101x4096.Idx → Elt F .f32) (K : PUnit → sProp 𝕄) :
    iprop(owns (c : Thread nD τ) arg1 fullShare X0 ∗ owns (c : Thread nD τ) arg2 fullShare X1 ∗ owns (c : Thread nD τ) arg3 fullShare X2 ∗ owns (c : Thread nD τ) arg4 fullShare X3 ∗ owns (c : Thread nD τ) arg5 fullShare X4 ∗ owns (c : Thread nD τ) arg6 fullShare X5 ∗ owns (c : Thread nD τ) arg7 fullShare X6 ∗ owns (c : Thread nD τ) arg8 fullShare X7 ∗ owns (c : Thread nD τ) arg9 fullShare X8 ∗ owns (c : Thread nD τ) arg10 fullShare X9 ∗ owns (c : Thread nD τ) arg11 fullShare X10
        ∗ (iprop(owns (c : Thread nD τ) arg1 fullShare X0 ∗ owns (c : Thread nD τ) arg2 fullShare X1 ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)) -∗ K ⟨⟩))
      ⊢ wp frame (wpE (defs₀ (F := F)) Variants.none c none) E (cc0__encode_tc_kernel i arg1 harg1 arg2 harg2 arg3 harg3 arg4 harg4 arg5 harg5 arg6 harg6 arg7 harg7 arg8 harg8 arg9 harg9 arg10 harg10 arg11 harg11) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  · iexists _; iexists _; isplitr
    swap; · iexact H10
    ipureintro; rfl

variable (m : (ℓ : Loc nD τ sig) → Buf (Elt F) ℓ) (ρ : Dev nD → PrngReg)

/-- The proof data: the arrays as the region finds them; the inputs' buffers keep their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => Dat.unnamed ⟨2, by decide⟩ t
    | ⟨3, _⟩ => Dat.unnamed ⟨3, by decide⟩ t
    | ⟨4, _⟩ => Dat.unnamed ⟨4, by decide⟩ t
    | ⟨5, _⟩ => Dat.unnamed ⟨5, by decide⟩ t
    | ⟨6, _⟩ => Dat.unnamed ⟨6, by decide⟩ t
    | ⟨7, _⟩ => Dat.unnamed ⟨7, by decide⟩ t
    | ⟨8, _⟩ => Dat.unnamed ⟨8, by decide⟩ t
    | ⟨9, _⟩ => Dat.unnamed ⟨9, by decide⟩ t
    | ⟨10, _⟩ => Dat.unnamed ⟨10, by decide⟩ t
  Φ _ := Pipeline.ΦA cfg0.spec c
  q _ := fullShare
  owed _ := 0

/-- The results' windows are forgotten. -/
def fgt : Fin cfg0.W → Bool
  | ⟨0, _⟩ => false
  | ⟨1, _⟩ => false
  | _ => true

/-- The body called at a point is the point's body. -/
theorem defs₀_row (t : Fin cfg0.N) : defs₀ (F := F) .tc cfg0.body (cfg0.bodyArgs t (cfg0.slots t)) = bodyAt0 t := by
  unfold defs₀; rw [Defs.onTc_tc]

/-- Before a point the first buffer holds the labels. -/
theorem before_0 (c : Dev nD) (t : Fin cfg0.N) (d) : (dats m 0 c).before 0 t d = iblk m c 0 t :=
  before0_0_of m (dats m 0 c) rfl (fun _ => rfl) t d
/-- Before a point the second buffer holds the block of default boxes, whatever lies past its end. -/
theorem before_1 (c : Dev nD) (t : Fin cfg0.N) (d) :
    (dats m 0 c).before 1 t d = win0_1.fill (grid0.coords t) d (iblk m c 1 t) := by
  unfold Dat.before; rw [if_pos (fetch0_1 t)]; rfl

set_option maxHeartbeats 1000000 in
/-- At every point the body runs, keeps what it reads and writes its results. -/
theorem body_obligation (c : Dev nD) : BodyObligationLoose (dats m 0 c) (defs₀ (F := F)) Variants.none () Set.univ fgt := fun t => by
  rw [bigSep_W0, bigSep_W0, defs₀_row]
  simp only [show fgt 0 = false from rfl, show fgt 1 = false from rfl, show fgt 2 = true from rfl, show fgt 3 = true from rfl, show fgt 4 = true from rfl, show fgt 5 = true from rfl, show fgt 6 = true from rfl, show fgt 7 = true from rfl, show fgt 8 = true from rfl, show fgt 9 = true from rfl, show fgt 10 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1]
  iapply (sound (F := F) c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10))
    (iblk m c 0 t) (win0_1.fill (grid0.coords t) d1 (iblk m c 1 t)) d2 d3 d4 d5 d6 d7 d8 d9 d10 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t)
      (win0_1.fill (grid0.coords t) (fun _ => Scalar.ofBits .f32 0#32) (iblk m c 1 t))))
    rw [win0_1.cut_fill]; exact .rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The compiled program ends with its arguments unchanged. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = (fun _ => 0)) := by
  refine Pipeline.θ_run_frame_around_T_forget cfgs (dats m) 0 launch0 defs₀ Variants.none fgt {main_v2} m ρ main (body_obligation m)
    (fun c w => by unfold Dat.share; split <;> rfl) (fun _ _ => rfl) (V0 m) [hostOps1] sfx_sub sfx_fresh sfx_keeps ?_ (hmain m Variants.none) (fun _ _ => rfl) (fun _ _ => rfl) _ ?_
  · intro ops hops op hop b hb
    simp only [List.mem_cons, List.mem_nil_iff, or_false] at hops
    subst hops
    simp only [hostOps1, List.mem_cons, List.mem_nil_iff, or_false] at hop
    subst hop
    simp only [StableHlo.unary_writes, Finset.mem_singleton] at hb
    exact Finset.mem_singleton.mpr (Proc.devRef_injective _ hb)
  · rintro r ⟨h, hs⟩
    refine ⟨fun c => ⟨(h.arr_in c 0 rfl).trans (V_main_arg0 m c), ?_⟩, hs⟩
    refine ((h c).2 main_arg1 ?_).trans (V_main_arg1 m c)
    exact Finset.mem_sdiff.mpr ⟨Pipeline.mem_restRefs_of main_arg1 (by decide) (by decide), by decide⟩

end Cert.Kernel.Body

end
-- ==== Proof.Batch.lean ====
/- One batch element of the kernel's body as functions of the staged label block and of the staged (transposed) default
   boxes, at any float operations: the table of boxes, the overlaps, the row chosen by each of the two ways of choosing
   one, the encoded rows, and the test that decides between the two ways. -/
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Tactic
public import Idealize.ShloMosaic.Lib.WholeRead
public import Idealize.ShloMosaic.Lib.Pipeline.FrameBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-! ## The default boxes' rows -/

/-- The left edges of the staged default boxes, -/
def dX0 (db : FVec F S4x4096 .f32) : FVec F S1x4096 .f32 :=
  extractStridedSlice S1x4096 ![0, 0] (shapeCast S4x4096 db shapeCasts_S4x4096_S4x4096) slices_S4x4096_o0_0_S1x4096
/-- their lower edges, -/
def dY0 (db : FVec F S4x4096 .f32) : FVec F S1x4096 .f32 :=
  extractStridedSlice S1x4096 ![1, 0] (shapeCast S4x4096 db shapeCasts_S4x4096_S4x4096) slices_S4x4096_o1_0_S1x4096
/-- their right edges, -/
def dX1 (db : FVec F S4x4096 .f32) : FVec F S1x4096 .f32 :=
  extractStridedSlice S1x4096 ![2, 0] (shapeCast S4x4096 db shapeCasts_S4x4096_S4x4096) slices_S4x4096_o2_0_S1x4096
/-- their upper edges, -/
def dY1 (db : FVec F S4x4096 .f32) : FVec F S1x4096 .f32 :=
  extractStridedSlice S1x4096 ![3, 0] (shapeCast S4x4096 db shapeCasts_S4x4096_S4x4096) slices_S4x4096_o3_0_S1x4096
/-- their widths -/
def dW (db : FVec F S4x4096 .f32) : FVec F S1x4096 .f32 := subf (dX1 db) (dX0 db)
/-- and heights, -/
def dH (db : FVec F S4x4096 .f32) : FVec F S1x4096 .f32 := subf (dY1 db) (dY0 db)
/-- the abscissas of their centres -/
def dCx (db : FVec F S4x4096 .f32) : FVec F S1x4096 .f32 :=
  mulf (addf (dX1 db) (dX0 db)) (broadcast S1x4096 (Scalar.ofBits .f32 0x3F000000#32))
/-- and the ordinates. -/
def dCy (db : FVec F S4x4096 .f32) : FVec F S1x4096 .f32 :=
  mulf (addf (dY1 db) (dY0 db)) (broadcast S1x4096 (Scalar.ofBits .f32 0x3F000000#32))

/-! ## The table of one batch element -/

/-- The zero row over the labels, those of class zero set to zero. -/
def tbl (v : FVec F S1x100x5 .f32) : FVec F S101x5 .f32 :=
  concatenate S101x5 0 [⟨S1x5, broadcast S1x5 (Scalar.ofBits .f32 0x00000000#32)⟩,
    ⟨S100x5, mulf (shapeCast S100x5 v shapeCasts_S1x100x5_S100x5)
      (broadcastTo S100x5 (sitofp .f32 (extui 32 (cmpf .one
        (extractStridedSlice S100x1 ![0, 4] (shapeCast S100x5 v shapeCasts_S1x100x5_S100x5) slices_S100x5_o0_4_S100x1)
        (broadcast S100x1 (Scalar.ofBits .f32 0x00000000#32))) natLt_1_32)) broadcasts_S100x1_S100x5)⟩]
    concatenates_S1x5_S100x5_S101x5_d0
/-- The table in two halves, its leading parts and what is left, and a column of ones. -/
def tbl2 (v : FVec F S1x100x5 .f32) : FVec F S101x11 .bf16 :=
  concatenate S101x11 1 [⟨S101x5, truncf .bf16 (tbl v) bitsLt_bf16_f32⟩,
    ⟨S101x5, truncf .bf16 (subf (tbl v) (extf .f32 (truncf .bf16 (tbl v) bitsLt_bf16_f32) bitsLt_bf16_f32)) bitsLt_bf16_f32⟩,
    ⟨S101x1, broadcast S101x1 (Scalar.ofBits .bf16 0x3F80#16)⟩] concatenates_S101x5_S101x5_S101x1_S101x11_d1

/-! ## The overlaps -/

/-- A column of the table along the lanes. -/
def col (o : Fin 2 → ℕ) (h : S101x5.Slices o S101x1) (v : FVec F S1x100x5 .f32) : FVec F S101x4096 .f32 :=
  broadcastTo S101x4096 (extractStridedSlice S101x1 o (tbl v) h) broadcasts_S101x1_S101x4096
/-- A row of the default boxes down the table. -/
def dn (x : FVec F S1x4096 .f32) : FVec F S101x4096 .f32 := broadcastTo S101x4096 x broadcasts_S1x4096_S101x4096
/-- The area that a box of the table and a default box share. -/
def inter (v : FVec F S1x100x5 .f32) (db : FVec F S4x4096 .f32) : FVec F S101x4096 .f32 :=
  mulf
    (maximumf (subf (minimumf (col ![0, 2] slices_S101x5_o0_2_S101x1 v) (dn (dX1 db)))
      (maximumf (col ![0, 0] slices_S101x5_o0_0_S101x1 v) (dn (dX0 db)))) (broadcast S101x4096 (Scalar.ofBits .f32 0x00000000#32)))
    (maximumf (subf (minimumf (col ![0, 3] slices_S101x5_o0_3_S101x1 v) (dn (dY1 db)))
      (maximumf (col ![0, 1] slices_S101x5_o0_1_S101x1 v) (dn (dY0 db)))) (broadcast S101x4096 (Scalar.ofBits .f32 0x00000000#32)))
/-- The areas of the boxes of the table. -/
def area (v : FVec F S1x100x5 .f32) : FVec F S101x1 .f32 :=
  mulf
    (subf (extractStridedSlice S101x1 ![0, 2] (tbl v) slices_S101x5_o0_2_S101x1)
      (extractStridedSlice S101x1 ![0, 0] (tbl v) slices_S101x5_o0_0_S101x1))
    (subf (extractStridedSlice S101x1 ![0, 3] (tbl v) slices_S101x5_o0_3_S101x1)
      (extractStridedSlice S101x1 ![0, 1] (tbl v) slices_S101x5_o0_1_S101x1))
/-- The overlap of every box of the table with every default box. -/
def iou (v : FVec F S1x100x5 .f32) (db : FVec F S4x4096 .f32) : FVec F S101x4096 .f32 :=
  divf (inter v db)
    (subf (addf (broadcastTo S101x4096 (area v) broadcasts_S101x1_S101x4096) (dn (mulf (dW db) (dH db)))) (inter v db))
/-- The greatest overlap on each lane. -/
def top (x : FVec F S101x4096 .f32) : FVec F S1x4096 .f32 :=
  shapeCast S1x4096 (multiReduction .maximumf [0] S4096 x 0xFF800000#32 reduces_S101x4096_S4096 (.inl rfl) rfl) shapeCasts_S4096_S1x4096
/-- Whether it is above one half. -/
def pos (x : FVec F S101x4096 .f32) : IVec S1x4096 1 :=
  cmpf .ogt (top x) (broadcast S1x4096 (Scalar.ofBits .f32 0x3F000000#32))

/-! ## The encoded rows -/

/-- The class of the chosen row, zero where nothing overlaps enough. -/
def cls (p : IVec S1x4096 1) (s : FVec F S5x4096 .f32) : FVec F S1x4096 .f32 :=
  select p (extractStridedSlice S1x4096 ![4, 0] s slices_S5x4096_o4_0_S1x4096) (broadcast S1x4096 (Scalar.ofBits .f32 0x00000000#32))
/-- An edge of the box taken: the default box's where the class is zero. -/
def edge (d : FVec F S1x4096 .f32) (o : Fin 2 → ℕ) (h : S5x4096.Slices o S1x4096) (p : IVec S1x4096 1) (s : FVec F S5x4096 .f32) : FVec F S1x4096 .f32 :=
  select (cmpf .oeq (cls p s) (broadcast S1x4096 (Scalar.ofBits .f32 0x00000000#32))) d (extractStridedSlice S1x4096 o s h)
/-- The encoded rows: the centre's offsets, the logarithms of the sides' ratios, the class. -/
def emit (db : FVec F S4x4096 .f32) (p : IVec S1x4096 1) (s : FVec F S5x4096 .f32) : FVec F S5x4096 .f32 :=
  concatenate S5x4096 0
    [⟨S1x4096, divf (subf (mulf (addf (edge (dX1 db) ![2, 0] slices_S5x4096_o2_0_S1x4096 p s) (edge (dX0 db) ![0, 0] slices_S5x4096_o0_0_S1x4096 p s))
        (broadcast S1x4096 (Scalar.ofBits .f32 0x3F000000#32))) (dCx db)) (dW db)⟩,
     ⟨S1x4096, divf (subf (mulf (addf (edge (dY1 db) ![3, 0] slices_S5x4096_o3_0_S1x4096 p s) (edge (dY0 db) ![1, 0] slices_S5x4096_o1_0_S1x4096 p s))
        (broadcast S1x4096 (Scalar.ofBits .f32 0x3F000000#32))) (dCy db)) (dH db)⟩,
     ⟨S1x4096, log (divf (subf (edge (dX1 db) ![2, 0] slices_S5x4096_o2_0_S1x4096 p s) (edge (dX0 db) ![0, 0] slices_S5x4096_o0_0_S1x4096 p s)) (dW db))⟩,
     ⟨S1x4096, log (divf (subf (edge (dY1 db) ![3, 0] slices_S5x4096_o3_0_S1x4096 p s) (edge (dY0 db) ![1, 0] slices_S5x4096_o1_0_S1x4096 p s)) (dH db))⟩,
     ⟨S1x4096, cls p s⟩] concatenates_S1x4096_S1x4096_S1x4096_S1x4096_S1x4096_S5x4096_d0

/-! ## Choosing a row -/

/-- The rows that attain the greatest overlap. -/
def hit (x : FVec F S101x4096 .f32) : FVec F S101x4096 .bf16 :=
  truncf .bf16 (sitofp .f32 (extui 32 (cmpf .oeq x (dn (top x))) natLt_1_32)) bitsLt_bf16_f32
/-- The sums over those rows. -/
def sums (v : FVec F S1x100x5 .f32) (x : FVec F S101x4096 .f32) : FVec F S11x4096 .f32 :=
  matmul dot_S101x11_S101x4096_S11x4096_0_0_1_1_n_n none (tbl2 v) (hit x) (constant S11x4096 .f32 0x00000000#32)
/-- The two halves of the sums put together. -/
def sel (v : FVec F S1x100x5 .f32) (x : FVec F S101x4096 .f32) : FVec F S5x4096 .f32 :=
  addf (extractStridedSlice S5x4096 ![0, 0] (sums v x) slices_S11x4096_o0_0_S5x4096)
    (extractStridedSlice S5x4096 ![5, 0] (sums v x) slices_S11x4096_o5_0_S5x4096)
/-- How many rows attain it. -/
def cnt (v : FVec F S1x100x5 .f32) (x : FVec F S101x4096 .f32) : FVec F S1x4096 .f32 :=
  extractStridedSlice S1x4096 ![10, 0] (sums v x) slices_S11x4096_o10_0_S1x4096
/-- The lanes of point `i` inside the array. -/
def live (i : grid0.Coords) : IVec S1x4096 1 :=
  cmpi .slt (addi (iota .tc S1x4096 32 [1] iota_S1x4096_d1_w32)
    (broadcast S1x4096 (Scalar.muli (BitVec.ofNat 32 (i 0).val) 4096#32))) (broadcast S1x4096 20000#32)
/-- Whether some lane inside the array with enough overlap has several rows that attain it. -/
def tie (i : grid0.Coords) (v : FVec F S1x100x5 .f32) (x : FVec F S101x4096 .f32) : BitVec 1 :=
  Scalar.cmpf .ogt (extractAt ![0, 0, 0] (shapeCast S1x1x1 (multiReduction .maximumf [1, 2] S1
    (shapeCast S1x1x4096 (select (andi (pos x) (live i)) (cnt v x) (broadcast S1x4096 (Scalar.ofBits .f32 0x00000000#32))) shapeCasts_S1x4096_S1x1x4096)
    0xFF800000#32 reduces_S1x1x4096_S1 (.inl rfl) rfl) shapeCasts_S1_S1x1x1) inpos_S1x1x1_p0_0_0) (Scalar.ofBits .f32 0x3FC00000#32)
/-- The first row that attains the greatest overlap. -/
def first (x : FVec F S101x4096 .f32) : IVec S1x4096 32 :=
  shapeCast S1x4096 (multiReductionI .minsi [0] S4096
    (select (cmpf .oge x (dn (top x))) (iota .tc S101x4096 32 [0] iota_S101x4096_d0_w32) (broadcast S101x4096 101#32))
    2147483647#32 reduces_S101x4096_S4096 rfl) shapeCasts_S4096_S1x4096
/-- That row alone. -/
def one (x : FVec F S101x4096 .f32) : FVec F S101x4096 .bf16 :=
  truncf .bf16 (sitofp .f32 (extui 32 (cmpi .eq (iota .tc S101x4096 32 [0] iota_S101x4096_d0_w32)
    (broadcastTo S101x4096 (first x) broadcasts_S1x4096_S101x4096)) natLt_1_32)) bitsLt_bf16_f32
/-- The sums over it. -/
def sumsx (v : FVec F S1x100x5 .f32) (x : FVec F S101x4096 .f32) : FVec F S10x4096 .f32 :=
  matmul dot_S101x10_S101x4096_S10x4096_0_0_1_1_n_n none (extractStridedSlice S101x10 ![0, 0] (tbl2 v) slices_S101x11_o0_0_S101x10) (one x) (constant S10x4096 .f32 0x00000000#32)
/-- The two halves of those put together. -/
def selx (v : FVec F S1x100x5 .f32) (x : FVec F S101x4096 .f32) : FVec F S5x4096 .f32 :=
  addf (extractStridedSlice S5x4096 ![0, 0] (sumsx v x) slices_S10x4096_o0_0_S5x4096)
    (extractStridedSlice S5x4096 ![5, 0] (sumsx v x) slices_S10x4096_o5_0_S5x4096)
/-- The encoded rows where no test asked for the first row, -/
def plain (v : FVec F S1x100x5 .f32) (db : FVec F S4x4096 .f32) : FVec F S5x4096 .f32 := emit db (pos (iou v db)) (sel v (iou v db))
/-- and where one did. -/
def exact (v : FVec F S1x100x5 .f32) (db : FVec F S4x4096 .f32) : FVec F S5x4096 .f32 := emit db (pos (iou v db)) (selx v (iou v db))

end Cert.KernelIdeal.Body

end
-- ==== Proof.Body.lean ====
/- The body's triple: from the staged labels and default boxes, whatever the result buffers hold, the body leaves the
   overlaps of each batch element in its own buffer and the encoded rows of all eight in the first. -/
module

public import proofs.«01_k».proof.Proof.Batch
public import Idealize.ShloMosaic.Lib.Pointwise
public import Idealize.ShloMosaic.Lib.Tactic.Stretches
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the loads read -/

/-- A batch element's rows of the staged labels. -/
theorem inb_lb (b : Fin 8) : ∀ a, (![b.val, 0, 0] : Fin 3 → ℕ) a + S1x100x5.size a ≤ S8x100x5.size a := by
  have := b.isLt
  intro a; fin_cases a
  · show b.val + 1 ≤ 8; omega
  · exact Nat.le_refl 100
  · exact Nat.le_refl 5
/-- The labels of batch element `b`. -/
def lb (b : Fin 8) (X0 : S8x100x5.Idx → Elt F .f32) : FVec F S1x100x5 .f32 :=
  fun x => X0 ((Rect.unit (s := S8x100x5) ![b.val, 0, 0] S1x100x5.size (inb_lb b)).toLoadRect.idx x)
/-- The default boxes as the body loads them. -/
def ldb (X1 : S4x4096.Idx → Elt F .f32) : FVec F S4x4096 .f32 :=
  fun x => X1 ((Rect.unit (s := S4x4096) ![0, 0] S4x4096.size inb_S4x4096_S4x4096_0_0).toLoadRect.idx x)

/-- Whether some batch element has a tie. -/
def flag (i : grid0.Coords) (X0 : S8x100x5.Idx → Elt F .f32) (X1 : S4x4096.Idx → Elt F .f32) : BitVec 1 :=
  Scalar.cmpi .ne (Scalar.extui (Scalar.ori (Scalar.ori (Scalar.ori (Scalar.ori (Scalar.ori (Scalar.ori (Scalar.ori
    (tie i (lb 0 X0) (iou (lb 0 X0) (ldb X1))) (tie i (lb 1 X0) (iou (lb 1 X0) (ldb X1))))
    (tie i (lb 2 X0) (iou (lb 2 X0) (ldb X1)))) (tie i (lb 3 X0) (iou (lb 3 X0) (ldb X1))))
    (tie i (lb 4 X0) (iou (lb 4 X0) (ldb X1)))) (tie i (lb 5 X0) (iou (lb 5 X0) (ldb X1))))
    (tie i (lb 6 X0) (iou (lb 6 X0) (ldb X1)))) (tie i (lb 7 X0) (iou (lb 7 X0) (ldb X1)))) : BitVec 32) 0#32

/-- The eight batch elements' rows, one over the other. -/
def stack (P : Fin 8 → FVec F S5x4096 .f32) : S8x5x4096.Idx → Elt F .f32 :=
  fun y => shapeCast S1x5x4096 (P (y 0)) shapeCasts_S5x4096_S1x5x4096 (ix3 (n0 := 1) (n1 := 5) (n2 := 4096) 0 (y 1) (y 2))

/-- What the body leaves in the first result's buffer. -/
def lab (i : grid0.Coords) (X0 : S8x100x5.Idx → Elt F .f32) (X1 : S4x4096.Idx → Elt F .f32) : S8x5x4096.Idx → Elt F .f32 :=
  if flag i X0 X1 = 1#1 then stack fun b => exact (lb b X0) (ldb X1) else stack fun b => plain (lb b X0) (ldb X1)

/-! ## The eight stores of the first result -/

/-- A batch element's rows of the first result. -/
theorem inb_st (b : Fin 8) : ∀ a, (![b.val, 0, 0] : Fin 3 → ℕ) a + S1x5x4096.size a ≤ S8x5x4096.size a := by
  have := b.isLt
  intro a; fin_cases a
  · show b.val + 1 ≤ 8; omega
  · exact Nat.le_refl 5
  · exact Nat.le_refl 4096
/-- The store of batch element `b`'s rows `p`. -/
abbrev piece (b : Fin 8) (p : FVec F S5x4096 .f32) : View.Piece (Elt F) S8x5x4096 .f32 :=
  ⟨Rect.unit (s := S8x5x4096) ![b.val, 0, 0] S1x5x4096.size (inb_st b), shapeCast S1x5x4096 p shapeCasts_S5x4096_S1x5x4096⟩

/-- The offset of two zeros. -/
theorem off2 : (![0, 0] : Fin 2 → ℕ) = fun _ => 0 := by funext a; fin_cases a <;> rfl

/-- A load of a whole overlap buffer reads what was stored there. -/
theorem readCov_whole {sp : Space} (v : View sig .tc sp S101x4096 .f32) (w : FVec F S101x4096 .f32) :
    v.readCov [(⟨Rect.unit (s := S101x4096) ![0, 0] S101x4096.size inb_S101x4096_S101x4096_0_0, w⟩ : View.Piece (Elt F) S101x4096 .f32)]
      (Rect.unit (s := S101x4096) ![0, 0] S101x4096.size inb_S101x4096_S101x4096_0_0).toLoadRect = w := by
  have h := View.readCov_unit_zero (S := S101x4096) (Val := Elt F) (e := .f32) v (off := ![0, 0]) off2 inb_S101x4096_S101x4096_0_0 w
  exact h

/-- One store of a whole block leaves it. -/
theorem read_whole {sp : Space} {S : Shape} (v : View sig .tc sp S .f32) (f : v.ty.Contents (Elt F)) {off : Fin S.rank → ℕ} (h : off = fun _ => 0)
    (inb : ∀ a, off a + S.size a ≤ S.size a) {w w' : FVec F S .f32} (e : w = w') :
    v.read (Elt F) (v.writes (Elt F) f [(⟨Rect.unit (s := S) off S.size inb, w⟩ : View.Piece (Elt F) S .f32)]) = w' :=
  ((View.read_writes_eq_canon (Val := Elt F) (e := .f32) v f _
    (fun y => ⟨_, List.mem_singleton_self _, View.mem_set_unit_zero h inb y⟩)).trans
    (View.canon_unit_zero (Val := Elt F) (e := .f32) h inb w)).trans e

/-- A cast of an overlap table to its own shape changes nothing. -/
theorem cast_whole (w : FVec F S101x4096 .f32) (h) : shapeCast S101x4096 w h = w := shapeCast_self w h

/-- A store's payload is the stack's part in its rectangle. -/
theorem piece_eq (P : Fin 8 → FVec F S5x4096 .f32) (b : Fin 8) (x : (piece b (P b)).1.shape.Idx) :
    (piece b (P b)).2 x = stack P ((piece b (P b)).1.emb x) := by
  have h0 : ((piece b (P b)).1.emb x) 0 = b := Fin.ext (by
    have : (x 0).val = 0 := by have := (x 0).isLt; exact Nat.lt_one_iff.mp this
    show b.val + 1 * (x 0).val = b.val; omega)
  have h1 : x = ix3 (n0 := 1) (n1 := 5) (n2 := 4096) 0 (((piece b (P b)).1.emb x) 1) (((piece b (P b)).1.emb x) 2) := by
    funext a; apply Fin.ext; fin_cases a
    · have := (x 0).isLt; exact Nat.lt_one_iff.mp this
    · show (x 1).val = 0 + 1 * (x 1).val; omega
    · show (x 2).val = 0 + 1 * (x 2).val; omega
  unfold stack
  rw [h0, ← h1]

/-- An index of the first result lies in its batch element's rectangle. -/
theorem mem_piece (p : Fin 8 → FVec F S5x4096 .f32) (y : S8x5x4096.Idx) (b : Fin 8) (h : y 0 = b) : y ∈ (piece b (p b)).1.set := by
  subst h
  refine (Rect.mem_set_unit (inb := inb_st (y 0))).mpr fun a => ?_
  fin_cases a
  · exact ⟨Nat.le_refl _, Nat.lt_succ_self _⟩
  · exact ⟨Nat.zero_le _, (show (y 1).val < 0 + 5 by have := (y 1).isLt; simpa using this)⟩
  · exact ⟨Nat.zero_le _, (show (y 2).val < 0 + 4096 by have := (y 2).isLt; simpa using this)⟩

/-- Eight stores leave the stack of their rows, whatever the buffer held and whatever was stored before. -/
theorem read_stack {sp : Space} (v : View sig .tc sp S8x5x4096 .f32) (f : v.ty.Contents (Elt F))
    (L : List (View.Piece (Elt F) S8x5x4096 .f32)) (P : Fin 8 → FVec F S5x4096 .f32)
    {w7 w6 w5 w4 w3 w2 w1 w0 : FVec F S1x5x4096 .f32}
    (h7 : w7 = shapeCast S1x5x4096 (P 7) shapeCasts_S5x4096_S1x5x4096)
    (h6 : w6 = shapeCast S1x5x4096 (P 6) shapeCasts_S5x4096_S1x5x4096)
    (h5 : w5 = shapeCast S1x5x4096 (P 5) shapeCasts_S5x4096_S1x5x4096)
    (h4 : w4 = shapeCast S1x5x4096 (P 4) shapeCasts_S5x4096_S1x5x4096)
    (h3 : w3 = shapeCast S1x5x4096 (P 3) shapeCasts_S5x4096_S1x5x4096)
    (h2 : w2 = shapeCast S1x5x4096 (P 2) shapeCasts_S5x4096_S1x5x4096)
    (h1 : w1 = shapeCast S1x5x4096 (P 1) shapeCasts_S5x4096_S1x5x4096)
    (h0 : w0 = shapeCast S1x5x4096 (P 0) shapeCasts_S5x4096_S1x5x4096) :
    v.read (Elt F) (v.writes (Elt F) f (⟨Rect.unit ![7, 0, 0] S1x5x4096.size inb_S8x5x4096_S1x5x4096_7_0_0, w7⟩ :: ⟨Rect.unit ![6, 0, 0] S1x5x4096.size inb_S8x5x4096_S1x5x4096_6_0_0, w6⟩ :: ⟨Rect.unit ![5, 0, 0] S1x5x4096.size inb_S8x5x4096_S1x5x4096_5_0_0, w5⟩ :: ⟨Rect.unit ![4, 0, 0] S1x5x4096.size inb_S8x5x4096_S1x5x4096_4_0_0, w4⟩ :: ⟨Rect.unit ![3, 0, 0] S1x5x4096.size inb_S8x5x4096_S1x5x4096_3_0_0, w3⟩ :: ⟨Rect.unit ![2, 0, 0] S1x5x4096.size inb_S8x5x4096_S1x5x4096_2_0_0, w2⟩ :: ⟨Rect.unit ![1, 0, 0] S1x5x4096.size inb_S8x5x4096_S1x5x4096_1_0_0, w1⟩ :: ⟨Rect.unit ![0, 0, 0] S1x5x4096.size inb_S8x5x4096_S1x5x4096_0_0_0, w0⟩ :: L)) = stack P := by
  subst h7 h6 h5 h4 h3 h2 h1 h0
  show v.read (Elt F) (v.writes (Elt F) (v.writes (Elt F) f L) [piece 7 (P 7), piece 6 (P 6), piece 5 (P 5), piece 4 (P 4), piece 3 (P 3), piece 2 (P 2), piece 1 (P 1), piece 0 (P 0)]) = _
  generalize v.writes (Elt F) f L = f'
  funext y
  refine View.read_writes_apply_of_pieces v f' (stack P) _ ?_ y ?_
  · intro p hp x
    simp only [List.mem_cons, List.not_mem_nil, or_false] at hp
    rcases hp with rfl | rfl | rfl | rfl | rfl | rfl | rfl | rfl <;> exact piece_eq P _ x
  · obtain ⟨b, hb⟩ : ∃ b : Fin 8, y 0 = b := ⟨_, rfl⟩
    refine ⟨piece b (P b), ?_, mem_piece P y b hb⟩
    simp only [List.mem_cons, List.not_mem_nil, or_false]
    clear hb
    fin_cases b <;> simp

set_option maxHeartbeats 1000000 in
/-- The body run over its eleven buffers: the two it reads are kept, the results hold the encoded rows and the overlaps. -/
theorem sound (c : Dev nD) (E : Set ℕ) (i : grid0.Coords) (arg1 : Memref sig .tc .vmem S8x100x5 .f32) (harg1 : arg1.IsWhole) (arg2 : Memref sig .tc .vmem S4x4096 .f32) (harg2 : arg2.IsWhole) (arg3 : Memref sig .tc .vmem S8x5x4096 .f32) (harg3 : arg3.IsWhole) (arg4 : Memref sig .tc .vmem S101x4096 .f32) (harg4 : arg4.IsWhole) (arg5 : Memref sig .tc .vmem S101x4096 .f32) (harg5 : arg5.IsWhole) (arg6 : Memref sig .tc .vmem S101x4096 .f32) (harg6 : arg6.IsWhole) (arg7 : Memref sig .tc .vmem S101x4096 .f32) (harg7 : arg7.IsWhole) (arg8 : Memref sig .tc .vmem S101x4096 .f32) (harg8 : arg8.IsWhole) (arg9 : Memref sig .tc .vmem S101x4096 .f32) (harg9 : arg9.IsWhole) (arg10 : Memref sig .tc .vmem S101x4096 .f32) (harg10 : arg10.IsWhole) (arg11 : Memref sig .tc .vmem S101x4096 .f32) (harg11 : arg11.IsWhole)
    (X0 : S8x100x5.Idx → Elt F .f32) (X1 : S4x4096.Idx → Elt F .f32) (X2 : S8x5x4096.Idx → Elt F .f32) (X3 : S101x4096.Idx → Elt F .f32) (X4 : S101x4096.Idx → Elt F .f32) (X5 : S101x4096.Idx → Elt F .f32) (X6 : S101x4096.Idx → Elt F .f32) (X7 : S101x4096.Idx → Elt F .f32) (X8 : S101x4096.Idx → Elt F .f32) (X9 : S101x4096.Idx → Elt F .f32) (X10 : S101x4096.Idx → Elt F .f32) (K : PUnit → sProp 𝕄) :
    iprop(owns (c : Thread nD τ) arg1 fullShare X0 ∗ owns (c : Thread nD τ) arg2 fullShare X1 ∗ owns (c : Thread nD τ) arg3 fullShare X2 ∗ owns (c : Thread nD τ) arg4 fullShare X3 ∗ owns (c : Thread nD τ) arg5 fullShare X4 ∗ owns (c : Thread nD τ) arg6 fullShare X5 ∗ owns (c : Thread nD τ) arg7 fullShare X6 ∗ owns (c : Thread nD τ) arg8 fullShare X7 ∗ owns (c : Thread nD τ) arg9 fullShare X8 ∗ owns (c : Thread nD τ) arg10 fullShare X9 ∗ owns (c : Thread nD τ) arg11 fullShare X10
        ∗ (iprop(owns (c : Thread nD τ) arg1 fullShare X0 ∗ owns (c : Thread nD τ) arg2 fullShare X1 ∗ owns (c : Thread nD τ) arg3 fullShare (lab i X0 X1) ∗ owns (c : Thread nD τ) arg4 fullShare (iou (lb 0 X0) (ldb X1)) ∗ owns (c : Thread nD τ) arg5 fullShare (iou (lb 1 X0) (ldb X1)) ∗ owns (c : Thread nD τ) arg6 fullShare (iou (lb 2 X0) (ldb X1)) ∗ owns (c : Thread nD τ) arg7 fullShare (iou (lb 3 X0) (ldb X1)) ∗ owns (c : Thread nD τ) arg8 fullShare (iou (lb 4 X0) (ldb X1)) ∗ owns (c : Thread nD τ) arg9 fullShare (iou (lb 5 X0) (ldb X1)) ∗ owns (c : Thread nD τ) arg10 fullShare (iou (lb 6 X0) (ldb X1)) ∗ owns (c : Thread nD τ) arg11 fullShare (iou (lb 7 X0) (ldb X1))) -∗ K ⟨⟩))
      ⊢ wp frame (wpE (defs₀ (F := F)) Variants.none c none) E (cc0__encode_tc_kernel i arg1 harg1 arg2 harg2 arg3 harg3 arg4 harg4 arg5 harg5 arg6 harg6 arg7 harg7 arg8 harg8 arg9 harg9 arg10 harg10 arg11 harg11) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  isplitl [H2]
  · iexists _; isplitr
    swap; · iexact H2
    ipureintro
    have hv : sound.sl.v861 c i arg1 arg2 f0 f1 = flag i (View.read (Elt F) arg1.view f0) (View.read (Elt F) arg2.view f1) := by
      sl_open_run; sl_open_pay; rfl
    unfold lab
    rw [← hv]
    split
    · rename_i hc
      refine read_stack _ _ _ _ ?_ ?_ ?_ ?_ ?_ ?_ ?_ ?_
      all_goals (sl_open_run; sl_open_pay; rw [readCov_whole, cast_whole]; exact rfl)
    · rename_i hc
      unfold sound.sl.H2_8
      refine read_stack _ _ _ _ ?_ ?_ ?_ ?_ ?_ ?_ ?_ ?_
      all_goals (sl_open_run; sl_open_pay; rfl)
  isplitl [H3]
  · iexists _; isplitr
    swap; · iexact H3
    ipureintro
    refine read_whole (S := S101x4096) _ _ off2 inb_S101x4096_S101x4096_0_0 ?_
    sl_open_run; sl_open_pay; rfl
  isplitl [H4]
  · iexists _; isplitr
    swap; · iexact H4
    ipureintro
    refine read_whole (S := S101x4096) _ _ off2 inb_S101x4096_S101x4096_0_0 ?_
    sl_open_run; sl_open_pay; rfl
  isplitl [H5]
  · iexists _; isplitr
    swap; · iexact H5
    ipureintro
    refine read_whole (S := S101x4096) _ _ off2 inb_S101x4096_S101x4096_0_0 ?_
    sl_open_run; sl_open_pay; rfl
  isplitl [H6]
  · iexists _; isplitr
    swap; · iexact H6
    ipureintro
    refine read_whole (S := S101x4096) _ _ off2 inb_S101x4096_S101x4096_0_0 ?_
    sl_open_run; sl_open_pay; rfl
  isplitl [H7]
  · iexists _; isplitr
    swap; · iexact H7
    ipureintro
    refine read_whole (S := S101x4096) _ _ off2 inb_S101x4096_S101x4096_0_0 ?_
    sl_open_run; sl_open_pay; rfl
  isplitl [H8]
  · iexists _; isplitr
    swap; · iexact H8
    ipureintro
    refine read_whole (S := S101x4096) _ _ off2 inb_S101x4096_S101x4096_0_0 ?_
    sl_open_run; sl_open_pay; rfl
  isplitl [H9]
  · iexists _; isplitr
    swap; · iexact H9
    ipureintro
    refine read_whole (S := S101x4096) _ _ off2 inb_S101x4096_S101x4096_0_0 ?_
    sl_open_run; sl_open_pay; rfl
  · iexists _; isplitr
    swap; · iexact H10
    ipureintro
    refine read_whole (S := S101x4096) _ _ off2 inb_S101x4096_S101x4096_0_0 ?_
    sl_open_run; sl_open_pay; rfl

end Cert.KernelIdeal.Body

end
-- ==== Proof.Spec.lean ====
/- Encoding a default box over the extended reals, one lane at a time: the table of labels, the overlaps, the row taken, the encoded row. -/
module

public import Idealize.ShloMosaic.Lib.Pointwise
public import Idealize.ShloMosaic.Lib.IdealHost

@[expose] public section

noncomputable section

namespace Cert.Boxes

open Idealize.ShloMosaic

/-- One for a label of a class, zero for one of class zero. -/
def valid (c : EReal) : EReal := if c = 0 then 0 else 1
/-- The zero row over the labels, those of class zero set to zero. -/
def row (L : Fin 100 → Fin 5 → EReal) (r : Fin 101) (k : Fin 5) : EReal :=
  if h : r.val < 1 then 0 else L ⟨r.val - 1, by omega⟩ k * valid (L ⟨r.val - 1, by omega⟩ 4)
/-- The area that a row's box and a default box share. -/
def shared (t : Fin 5 → EReal) (d : Fin 4 → EReal) : EReal :=
  max (min (t 2) (d 2) - max (t 0) (d 0)) 0 * max (min (t 3) (d 3) - max (t 1) (d 1)) 0
/-- Their overlap: the shared area over the joint area. -/
def overlap (t : Fin 5 → EReal) (d : Fin 4 → EReal) : EReal :=
  Ideal.div (shared t d) ((t 2 - t 0) * (t 3 - t 1) + (d 2 - d 0) * (d 3 - d 1) - shared t d)
/-- The greatest of 101 values. -/
def best (f : Fin 101 → EReal) : EReal := Finset.univ.fold max ⊥ f

/-- No value is above the greatest. -/
theorem le_best (f : Fin 101 → EReal) (r : Fin 101) : f r ≤ best f :=
  (Finset.le_fold_max (b := ⊥) (s := Finset.univ) (f := f) (f r)).mpr (Or.inr ⟨r, Finset.mem_univ r, le_refl _⟩)

/-- Some value is the greatest. -/
theorem exists_best (f : Fin 101 → EReal) : ∃ r, f r = best f := by
  obtain ⟨r, -, hr⟩ := Finset.exists_max_image Finset.univ f ⟨0, Finset.mem_univ 0⟩
  exact ⟨r, le_antisymm (le_best f r) (Finset.fold_max_le (b := ⊥) (s := Finset.univ) (f := f) (f r) |>.mpr ⟨bot_le, hr⟩)⟩

/-- Some row is the first of the greatest value. -/
theorem exists_first (f : Fin 101 → EReal) : ∃ r, f r = best f ∧ ∀ q < r, f q ≠ best f := by
  obtain ⟨r, hr, hm⟩ := WellFounded.has_min (wellFounded_lt (α := Fin 101)) {r | f r = best f} (exists_best f)
  exact ⟨r, hr, fun q hq h => hm q h hq⟩

/-- The first row whose value is the greatest. -/
def pick (f : Fin 101 → EReal) : Fin 101 := (exists_first f).choose
/-- The row picked has the greatest value. -/
theorem pick_best (f : Fin 101 → EReal) : f (pick f) = best f := (exists_first f).choose_spec.1
/-- No row of the greatest value comes before the row picked. -/
theorem pick_first (f : Fin 101 → EReal) (q : Fin 101) (h : f q = best f) : pick f ≤ q :=
  not_lt.mp fun hq => (exists_first f).choose_spec.2 q hq h
/-- A first row of the greatest value is the row picked. -/
theorem eq_pick (f : Fin 101 → EReal) (r : Fin 101) (h : f r = best f) (h' : ∀ q, f q = best f → r ≤ q) : r = pick f :=
  le_antisymm (h' _ (pick_best f)) (pick_first f r h)

/-- One half, as the programs write it. -/
abbrev half : EReal := Ideal.ofBits FTy.f32 1056964608#32

/-- An edge of the box taken: the default box's where the class is zero. -/
def edge (d : Fin 4 → EReal) (c : EReal) (s : Fin 5 → EReal) (a : Fin 4) : EReal :=
  if c = 0 then d a else s a.castSucc
/-- The encoded row of a default box `d`, a row `s` taken for it and its class `c`. -/
def code (d : Fin 4 → EReal) (c : EReal) (s : Fin 5 → EReal) : Fin 5 → EReal
  | 0 => Ideal.div ((edge d c s 2 + edge d c s 0) * half - (d 2 + d 0) * half) (d 2 - d 0)
  | 1 => Ideal.div ((edge d c s 3 + edge d c s 1) * half - (d 3 + d 1) * half) (d 3 - d 1)
  | 2 => Ideal.log (Ideal.div (edge d c s 2 - edge d c s 0) (d 2 - d 0))
  | 3 => Ideal.log (Ideal.div (edge d c s 3 - edge d c s 1) (d 3 - d 1))
  | 4 => c

/-- At class zero the row taken does not count. -/
theorem code_zero (d : Fin 4 → EReal) (s s' : Fin 5 → EReal) : code d 0 s = code d 0 s' := by
  funext k; fin_cases k <;> simp [code, edge]

/-- The overlaps of a default box with the rows of the table. -/
def laps (L : Fin 100 → Fin 5 → EReal) (d : Fin 4 → EReal) (r : Fin 101) : EReal := overlap (row L r) d
/-- The class of a row taken at overlaps `f`: zero where none is above one half. -/
def clsOf (f : Fin 101 → EReal) (s : Fin 5 → EReal) : EReal := if half < best f then s 4 else 0
/-- The encoded row of a default box. -/
def encode (L : Fin 100 → Fin 5 → EReal) (d : Fin 4 → EReal) : Fin 5 → EReal :=
  code d (clsOf (laps L d) (row L (pick (laps L d)))) (row L (pick (laps L d)))
/-- A value put together from its leading part and what is left. -/
def both (x : EReal) : EReal := x + (x - x)
/-- The encoded row from the two parts of the row taken. -/
def encode2 (L : Fin 100 → Fin 5 → EReal) (d : Fin 4 → EReal) : Fin 5 → EReal :=
  code d (clsOf (laps L d) fun k => both (row L (pick (laps L d)) k)) fun k => both (row L (pick (laps L d)) k)

/-- Below infinity the two parts give the value back. -/
theorem both_eq (x : EReal) (h : x < ⊤) : both x = x := by
  unfold both
  induction x using EReal.rec with
  | bot => simp
  | coe a => rw [← EReal.coe_sub, ← EReal.coe_add]; simp
  | top => exact absurd h (lt_irrefl _)

/-- Labels below infinity make rows below infinity. -/
theorem row_lt_top (L : Fin 100 → Fin 5 → EReal) (h : ∀ a k, L a k < ⊤) (r : Fin 101) (k : Fin 5) : row L r k < ⊤ := by
  unfold row valid
  split
  · exact EReal.zero_lt_top
  · split
    · rw [mul_zero]; exact EReal.zero_lt_top
    · rw [mul_one]; exact h _ _

/-- Labels below infinity: the two encoded rows agree. -/
theorem encode2_eq (L : Fin 100 → Fin 5 → EReal) (h : ∀ a k, L a k < ⊤) (d : Fin 4 → EReal) : encode2 L d = encode L d := by
  unfold encode2 encode
  rw [show (fun k => both (row L (pick (laps L d)) k)) = row L (pick (laps L d)) from
    funext fun k => both_eq _ (row_lt_top L h _ k)]

/-! ## Sums over marked rows -/

/-- A sum over one marked row is its value. -/
theorem sum_one (t : Fin 101 → EReal) (r : Fin 101) : (∑ q, t q * if q = r then 1 else 0) = t r := by
  rw [Finset.sum_eq_single r]
  · rw [if_pos rfl, mul_one]
  · intro q _ hq; rw [if_neg hq, mul_zero]
  · intro h; exact absurd (Finset.mem_univ r) h

/-- Two marked rows count for two at least. -/
theorem two_le_count (p : Fin 101 → Prop) [DecidablePred p] (q r : Fin 101) (hq : p q) (hr : p r) (hne : q ≠ r) :
    (2 : EReal) ≤ ∑ x, if p x then 1 else 0 := by
  have h : (∑ x ∈ {q, r}, if p x then (1 : EReal) else 0) ≤ ∑ x, if p x then 1 else 0 :=
    Finset.sum_le_sum_of_subset_of_nonneg (Finset.subset_univ _) fun x _ _ => by split <;> simp
  rw [Finset.sum_pair hne, if_pos hq, if_pos hr, one_add_one_eq_two] at h
  exact h

/-- Three halves is below two. -/
theorem threeHalves_lt : Ideal.ofBits FTy.f32 1069547520#32 < (2 : EReal) := by
  have h : Ideal.ofBits .f32 0x3FC00000#32 = (((3 : ℝ) / 2 : ℝ) : EReal) := by
    simp [Ideal.ofBits, Ideal.ieee, -EReal.coe_mul]; norm_num
  rw [h, show (2 : EReal) = ((2 : ℝ) : EReal) by norm_cast, EReal.coe_lt_coe_iff]; norm_num

/-- One is below three halves. -/
theorem one_lt_threeHalves : (1 : EReal) < Ideal.ofBits FTy.f32 1069547520#32 := by
  have h : Ideal.ofBits .f32 0x3FC00000#32 = (((3 : ℝ) / 2 : ℝ) : EReal) := by
    simp [Ideal.ofBits, Ideal.ieee, -EReal.coe_mul]; norm_num
  rw [h, show (1 : EReal) = ((1 : ℝ) : EReal) by norm_cast, EReal.coe_lt_coe_iff]; norm_num

/-- Division by two is multiplication by one half. -/
theorem div_two (x : EReal) : Ideal.div x (Ideal.ofBits FTy.f32 1073741824#32) = x * half := by
  have h2 : Ideal.ofBits .f32 0x40000000#32 = ((2 : ℝ) : EReal) := by
    simp [Ideal.ofBits, Ideal.ieee, -EReal.coe_mul]; norm_num
  have h1 : Ideal.ofBits .f32 0x3F000000#32 = (((1 : ℝ) / 2 : ℝ) : EReal) := by
    simp [Ideal.ofBits, Ideal.ieee, -EReal.coe_mul]; norm_num
  unfold Ideal.div
  rw [h2, if_neg (by norm_num), half, h1, ← EReal.coe_inv]; norm_num

/-- The literal of minus infinity is the least value. -/
theorem ofBits_bot : Ideal.ofBits FTy.f32 4286578688#32 = ⊥ := by simp [Ideal.ofBits, Ideal.ieee]

end Cert.Boxes

end
-- ==== Proof.Lanes.lean ====
/- The kernel's batch element read lane by lane over the extended reals: each stage as a function of the table's rows and
   of the lane's default box. -/
module

public import proofs.«01_k».proof.Proof.Batch
public import proofs.«01_k».proof.Proof.Spec
public import Idealize.ShloMosaic.Lib.SortNet.Extract

@[expose] public section

set_option maxRecDepth 16384

noncomputable section

namespace Cert.KernelIdeal.Body

open Cert.KernelIdeal Cert.KernelIdeal.Gen Cert.Boxes
open Idealize.ShloMosaic Idealize.ShloMosaic.TcCoe Idealize.ShloMosaic.Tactic

/-- A flag as a number: one where it holds, zero elsewhere. -/
theorem mark (p : Prop) [Decidable p] :
    (FloatOps.sitofp FTy.f32 (BitVec.setWidth 32 (BitVec.ofBool (decide p))) : Ideal .f32) = if p then (1 : EReal) else 0 := by
  by_cases h : p
  · simp only [h, decide_true, if_true]
    change (((1 : BitVec 32).toInt : ℝ) : EReal) = 1
    simp
  · simp only [h, decide_false, if_false]
    change (((0 : BitVec 32).toInt : ℝ) : EReal) = 0
    simp

/-- The labels of a staged block. -/
def labels (v : FVec Ideal S1x100x5 .f32) (a : Fin 100) (k : Fin 5) : EReal := v (ix3 0 a k)
/-- The default box staged at a lane. -/
def box (db : FVec Ideal S4x4096 .f32) (l : Fin 4096) (a : Fin 4) : EReal := db (ix2 a l)
/-- A lane's column. -/
def lane (x : FVec Ideal S101x4096 .f32) (l : Fin 4096) (r : Fin 101) : EReal := x (ix2 r l)

/-- The table at an index is the row of the labels. -/
theorem tbl_at (v : FVec Ideal S1x100x5 .f32) (r : Fin 101) (k : Fin 5) : tbl v (ix2 r k) = row (labels v) r k := by
  pointwise [tbl]
  simp only [mark, row, valid, labels, ne_eq, ite_not]
  rfl

/-- The overlaps at an index. -/
theorem iou_at (v : FVec Ideal S1x100x5 .f32) (db : FVec Ideal S4x4096 .f32) (r : Fin 101) (l : Fin 4096) :
    iou v db (ix2 r l) = laps (labels v) (box db l) r := by
  pointwise [iou, inter, area, dW, dH, dX0, dX1, dY0, dY1, col, dn]
  simp only [tbl_at]
  rfl

/-- A lane of the overlaps. -/
theorem lane_iou (v : FVec Ideal S1x100x5 .f32) (db : FVec Ideal S4x4096 .f32) (l : Fin 4096) :
    lane (iou v db) l = laps (labels v) (box db l) := funext fun r => iou_at v db r l

/-- The greatest overlap of a lane. -/
theorem top_at (x : FVec Ideal S101x4096 .f32) (l : Fin 4096) : top x (ix2 0 l) = best (lane x l) := by
  pointwise [top]
  rw [ofBits_bot]; rfl

/-- Whether a lane has an overlap above one half. -/
theorem pos_at (x : FVec Ideal S101x4096 .f32) (l : Fin 4096) :
    pos x (ix2 0 l) = BitVec.ofBool (decide (half < best (lane x l))) := by
  pointwise [pos]
  simp only [top_at]

/-- One at the rows of the greatest overlap. -/
theorem hit_at (x : FVec Ideal S101x4096 .f32) (r : Fin 101) (l : Fin 4096) :
    hit x (ix2 r l) = if lane x l r = best (lane x l) then (1 : EReal) else 0 := by
  pointwise [hit, dn]
  simp only [top_at, mark]
  rfl

/-- The least of a column of integers. -/
theorem least_at (y : IVec S101x4096 32) (l : Fin 4096) :
    shapeCast S1x4096 (multiReductionI .minsi [0] S4096 y 2147483647#32 reduces_S101x4096_S4096 rfl) shapeCasts_S4096_S1x4096 (ix2 0 l)
      = Finset.univ.fold IntOp.minsi 2147483647#32 fun r => y (ix2 r l) := by
  have h1 : ∀ y' : IVec S4096 32, shapeCast S1x4096 y' shapeCasts_S4096_S1x4096 (ix2 0 l) = y' (ix1 l) := by
    intro y'; pointwise
  rw [h1]
  exact (multiReductionI_eq_fold .minsi y _ _ rfl (ix1 l)).trans (Shape.Reduces.fold_fiber_r2_a0 _ _ _ _ _)

/-- The first row that attains the greatest overlap, as the kernel numbers it. -/
theorem first_at (x : FVec Ideal S101x4096 .f32) (l : Fin 4096) :
    first x (ix2 0 l) = BitVec.ofNat 32 (pick (lane x l)).val := by
  unfold first
  rw [least_at]
  have hy : ∀ r : Fin 101, (select (cmpf .oge x (dn (top x))) (iota .tc S101x4096 32 [0] iota_S101x4096_d0_w32) (broadcast S101x4096 101#32)) (ix2 r l)
      = if lane x l r = best (lane x l) then BitVec.ofNat 32 r.val else 101#32 := by
    intro r
    pointwise [dn]
    simp only [top_at]
    by_cases h : lane x l r = best (lane x l)
    · rw [if_pos h]
      have h' : best (lane x l) ≤ x (ix2 r l) := h.ge
      simp [h']
    · rw [if_neg h]
      have h' : ¬ best (lane x l) ≤ x (ix2 r l) := fun e => h (le_antisymm (le_best _ _) e)
      simp [h']
  simp only [hy]
  have hn : ∀ n < 102, (BitVec.ofNat 32 n).toInt = (n : ℤ) := by
    intro n hn
    have hm : (BitVec.ofNat 32 n).toNat = n := by rw [BitVec.toNat_ofNat]; omega
    rw [BitVec.toInt_eq_toNat_of_lt (by rw [hm]; omega), hm]
  have hv : ∀ r : Fin 101, (if lane x l r = best (lane x l) then BitVec.ofNat 32 r.val else 101#32).toInt
      = if lane x l r = best (lane x l) then (r.val : ℤ) else 101 := by
    intro r; split
    · exact hn _ (by omega)
    · exact hn 101 (by omega)
  apply BitVec.eq_of_toInt_eq
  rw [hn _ (by omega)]
  have hf := Finset.fold_hom (op := IntOp.minsi) (op' := min) (b := 2147483647#32) (s := Finset.univ)
    (f := fun r : Fin 101 => if lane x l r = best (lane x l) then BitVec.ofNat 32 r.val else 101#32) (m := BitVec.toInt) (Idealize.ShloMosaic.SortNet.toInt_minsi)
  rw [← hf]
  apply le_antisymm
  · refine (Finset.fold_min_le _).mpr (Or.inr ⟨pick (lane x l), Finset.mem_univ _, ?_⟩)
    rw [hv, if_pos (pick_best _)]
  · refine (Finset.le_fold_min _).mpr ⟨?_, fun r _ => ?_⟩
    · change ((pick (lane x l)).val : ℤ) ≤ 2147483647
      omega
    · rw [hv]; split
      · rename_i h; exact_mod_cast pick_first _ r h
      · omega

/-- One at the row picked. -/
theorem one_at (x : FVec Ideal S101x4096 .f32) (r : Fin 101) (l : Fin 4096) :
    one x (ix2 r l) = if r = pick (lane x l) then (1 : EReal) else 0 := by
  pointwise [one]
  rw [first_at, show IntOp.cmpi .eq (BitVec.ofNat 32 r.val) (BitVec.ofNat 32 (pick (lane x l)).val) = BitVec.ofBool (decide (r = pick (lane x l))) from ?_, mark]
  · change BitVec.ofBool (BitVec.ofNat 32 r.val == BitVec.ofNat 32 (pick (lane x l)).val) = _
    congr 1
    rw [Bool.eq_iff_iff, beq_iff_eq, decide_eq_true_iff, ← BitVec.toNat_inj, BitVec.toNat_ofNat, BitVec.toNat_ofNat, Fin.ext_iff]
    omega

/-! ## The tables' sums -/

/-- The first part of the table: its entries. -/
theorem tbl2_lo (v : FVec Ideal S1x100x5 .f32) (r : Fin 101) (k : Fin 5) : tbl2 v (ix2 r ⟨k.val, by omega⟩) = row (labels v) r k := by
  pointwise [tbl2]
  simp only [tbl_at]

/-- The second part of the table: what the first leaves. -/
theorem tbl2_hi (v : FVec Ideal S1x100x5 .f32) (r : Fin 101) (k : Fin 5) :
    tbl2 v (ix2 r ⟨5 + k.val, by omega⟩) = row (labels v) r k - row (labels v) r k := by
  pointwise [tbl2]
  simp only [tbl_at]

/-- The last column of the table counts. -/
theorem tbl2_one (v : FVec Ideal S1x100x5 .f32) (r : Fin 101) : tbl2 v (ix2 r 10) = (1 : EReal) := by
  pointwise [tbl2]

/-- The first pass sums the rows of the greatest overlap. -/
theorem sums_at (v : FVec Ideal S1x100x5 .f32) (x : FVec Ideal S101x4096 .f32) (r : Fin 11) (l : Fin 4096) :
    sums v x (ix2 r l) = ∑ q, tbl2 v (ix2 q r) * if lane x l q = best (lane x l) then (1 : EReal) else 0 := by
  pointwise [sums]
  simp only [hit_at]

/-- With one such row the sum is that row. -/
theorem sums_unique (v : FVec Ideal S1x100x5 .f32) (x : FVec Ideal S101x4096 .f32) (r : Fin 11) (l : Fin 4096)
    (h : ∀ q, lane x l q = best (lane x l) → q = pick (lane x l)) : sums v x (ix2 r l) = tbl2 v (ix2 (pick (lane x l)) r) := by
  rw [sums_at, ← sum_one (fun q => tbl2 v (ix2 q r)) (pick (lane x l))]
  refine Finset.sum_congr rfl fun q _ => ?_
  by_cases e : lane x l q = best (lane x l)
  · rw [if_pos e, if_pos (h q e)]
  · rw [if_neg e, if_neg fun e' => e (by rw [e']; exact pick_best _)]

/-- The second pass takes the row picked. -/
theorem sumsx_at (v : FVec Ideal S1x100x5 .f32) (x : FVec Ideal S101x4096 .f32) (r : Fin 10) (l : Fin 4096) :
    sumsx v x (ix2 r l) = tbl2 v (ix2 (pick (lane x l)) ⟨r.val, by omega⟩) := by
  pointwise [sumsx]
  simp only [one_at]
  exact sum_one (fun q => tbl2 v (ix2 q ⟨r.val, by omega⟩)) _

/-- With one row of the greatest overlap the first pass selects the row picked, in two parts. -/
theorem sel_at (v : FVec Ideal S1x100x5 .f32) (x : FVec Ideal S101x4096 .f32) (k : Fin 5) (l : Fin 4096)
    (h : ∀ q, lane x l q = best (lane x l) → q = pick (lane x l)) :
    sel v x (ix2 k l) = both (row (labels v) (pick (lane x l)) k) := by
  pointwise [sel]
  rw [sums_unique v x _ l h, sums_unique v x _ l h, tbl2_lo, tbl2_hi]
  rfl

/-- The second pass selects the row picked, in two parts. -/
theorem selx_at (v : FVec Ideal S1x100x5 .f32) (x : FVec Ideal S101x4096 .f32) (k : Fin 5) (l : Fin 4096) :
    selx v x (ix2 k l) = both (row (labels v) (pick (lane x l)) k) := by
  pointwise [selx]
  rw [sumsx_at, sumsx_at, tbl2_lo, tbl2_hi]
  rfl

/-- The count of the rows of the greatest overlap. -/
theorem cnt_at (v : FVec Ideal S1x100x5 .f32) (x : FVec Ideal S101x4096 .f32) (l : Fin 4096) :
    cnt v x (ix2 0 l) = ∑ q, if lane x l q = best (lane x l) then (1 : EReal) else 0 := by
  pointwise [cnt]
  rw [sums_at]
  simp only [tbl2_one, one_mul]

/-- No more than one and a half of the rows that attain the greatest overlap: one row. -/
theorem unique_of_cnt (f : Fin 101 → EReal) (h : ¬ Ideal.ofBits FTy.f32 1069547520#32 < ∑ q, if f q = best f then (1 : EReal) else 0)
    (q : Fin 101) (hq : f q = best f) : q = pick f := by
  by_contra hne
  exact h (threeHalves_lt.trans_le (two_le_count (fun q => f q = best f) q (pick f) hq (pick_best f) hne))

/-! ## The encoded rows -/

/-- The encoding at an index: the code of what was selected. -/
theorem emit_at (db : FVec Ideal S4x4096 .f32) (p : IVec S1x4096 1) (s : FVec Ideal S5x4096 .f32) (k : Fin 5) (l : Fin 4096) :
    emit db p s (ix2 k l) = code (box db l) (Scalar.select (p (ix2 0 l)) (s (ix2 4 l)) 0) (fun k => s (ix2 k l)) k := by
  fin_cases k <;> pointwise [emit, cls, Body.edge, dW, dH, dX0, dX1, dY0, dY1, dCx, dCy] <;> rfl

/-- Where no overlap is above one half, the encoded row does not depend on the row taken. -/
theorem emit_pos (v : FVec Ideal S1x100x5 .f32) (db : FVec Ideal S4x4096 .f32) (s : FVec Ideal S5x4096 .f32) (k : Fin 5) (l : Fin 4096)
    (h : half < best (laps (labels v) (box db l)) → ∀ k, s (ix2 k l) = both (row (labels v) (pick (laps (labels v) (box db l))) k)) :
    emit db (pos (iou v db)) s (ix2 k l) = encode2 (labels v) (box db l) k := by
  rw [emit_at, pos_at, lane_iou]
  unfold encode2 clsOf
  by_cases hp : half < best (laps (labels v) (box db l))
  · rw [if_pos hp]
    simp only [hp, decide_true, h hp]
    rfl
  · rw [if_neg hp]
    simp only [hp, decide_false]
    exact congrFun (code_zero _ _ _) k

/-- The second pass encodes every lane right. -/
theorem exact_at (v : FVec Ideal S1x100x5 .f32) (db : FVec Ideal S4x4096 .f32) (k : Fin 5) (l : Fin 4096) :
    exact v db (ix2 k l) = encode2 (labels v) (box db l) k :=
  emit_pos v db _ k l fun _ k => by rw [selx_at, lane_iou]

/-- A lane of point `i` inside the array is marked so. -/
theorem live_at (i : grid0.Coords) (l : Fin 4096) (h : (i 0).val * 4096 + l.val < 20000) : live i (ix2 0 l) = 1#1 := by
  pointwise [live]
  have h0 : (i 0).val < 5 := (i 0).isLt
  have hm : (IntOp.addi (BitVec.ofNat 32 l.val) (Scalar.muli (BitVec.ofNat 32 (i 0).val) 4096#32)).toNat = (i 0).val * 4096 + l.val := by
    change (BitVec.ofNat 32 l.val + BitVec.ofNat 32 (i 0).val * 4096#32).toNat = _
    simp only [BitVec.toNat_add, BitVec.toNat_mul, BitVec.toNat_ofNat]
    omega
  change BitVec.ofBool (BitVec.slt _ _) = 1#1
  rw [BitVec.slt, BitVec.toInt_eq_toNat_of_lt (by rw [hm]; omega), hm]
  simp only [BitVec.reduceToInt]
  rw [decide_eq_true (by omega)]; rfl

/-- A family's greatest value is above what one of its values is above. -/
theorem above {α : Type} [Fintype α] (b c : EReal) (f : α → EReal) (p : α) (h : c < f p) :
    BitVec.ofBool (decide (c < Finset.univ.fold max b f)) = 1#1 := by
  rw [decide_eq_true ((Finset.lt_fold_max c).mpr (Or.inr ⟨p, Finset.mem_univ p, h⟩))]
  rfl
/-- One lane above one and a half makes the greatest of the lanes so. -/
theorem greatest_above (z : FVec Ideal S1x4096 .f32) (l : Fin 4096) (h : Ideal.ofBits FTy.f32 1069547520#32 < z (ix2 0 l)) :
    Scalar.cmpf .ogt (extractAt ![0, 0, 0] (shapeCast S1x1x1 (multiReduction .maximumf [1, 2] S1
      (shapeCast S1x1x4096 z shapeCasts_S1x4096_S1x1x4096) 0xFF800000#32 reduces_S1x1x4096_S1 (.inl rfl) rfl) shapeCasts_S1_S1x1x1)
      inpos_S1x1x1_p0_0_0) (Scalar.ofBits (F := Ideal) .f32 0x3FC00000#32) = 1#1 := by
  pointwise
  exact above _ _ _ ((0, l) : Fin 1 × Fin 4096) h

/-- A lane inside the array with enough overlap and several rows that attain it is seen by the test. -/
theorem tie_of_count (i : grid0.Coords) (v : FVec Ideal S1x100x5 .f32) (x : FVec Ideal S101x4096 .f32) (l : Fin 4096)
    (hl : (i 0).val * 4096 + l.val < 20000) (hp : half < best (lane x l))
    (hc : Ideal.ofBits FTy.f32 1069547520#32 < ∑ q, if lane x l q = best (lane x l) then (1 : EReal) else 0) : tie i v x = 1#1 := by
  unfold tie
  apply greatest_above _ l
  change _ < Scalar.select (IntOp.andi (pos x (ix2 0 l)) (live i (ix2 0 l))) (cnt v x (ix2 0 l)) _
  rw [live_at i l hl, pos_at, cnt_at, decide_eq_true hp]
  exact hc

/-- A lane inside the array of a batch element the test passed by: the sums over the attaining rows are one row's. -/
theorem plain_at (i : grid0.Coords) (v : FVec Ideal S1x100x5 .f32) (db : FVec Ideal S4x4096 .f32) (k : Fin 5) (l : Fin 4096)
    (hl : (i 0).val * 4096 + l.val < 20000) (ht : tie i v (iou v db) ≠ 1#1) :
    plain v db (ix2 k l) = encode2 (labels v) (box db l) k := by
  refine emit_pos v db _ k l fun hp k => ?_
  rw [sel_at v _ k l, lane_iou]
  rw [← lane_iou] at hp
  exact unique_of_cnt _ fun hc => ht (tie_of_count i v _ l hl hp hc)

end Cert.KernelIdeal.Body

end
-- ==== Proof.Blocks.lean ====
/- The kernel's blocks over the extended reals: what the body leaves of every result at a grid point, cut at the array's
   end, is the point's block of one array of the labels and of the default boxes. -/
module

public import proofs.«01_k».proof.Proof.Body
public import proofs.«01_k».proof.Proof.Lanes
public import Idealize.ShloMosaic.Lib.Pipeline.ValueKit

@[expose] public section

set_option maxRecDepth 16384

noncomputable section

namespace Cert.KernelIdeal.Body

open Cert.KernelIdeal Cert.KernelIdeal.Gen Cert.Boxes
open Idealize.ShloMosaic Idealize.ShloMosaic.TcCoe Idealize.ShloMosaic.Tactic
open Idealize.ShloMosaic.Pipeline (Dat Cfg Window BodyObligationLoose)

variable (m : (ℓ : Loc nD τ sig) → Buf (Elt Ideal) ℓ)

/-- The labels of batch element `b`. -/
def labelsOf (c : Dev nD) (b : Fin 8) (a : Fin 100) (k : Fin 5) : EReal := V m c main_arg0 (ix3 b a k)
/-- A default box. -/
def boxOf (c : Dev nD) (n : Fin 20000) (a : Fin 4) : EReal := V m c main_v0 (ix2 a n)
/-- The encoded rows of all batch elements, coordinates over boxes. -/
def labArr (c : Dev nD) : S8x5x20000.Idx → EReal := fun y => encode2 (labelsOf m c (y 0)) (boxOf m c (y 2)) (y 1)
/-- The overlaps of one batch element. -/
def lapArr (c : Dev nD) (b : Fin 8) : S101x20000.Idx → EReal := fun y => laps (labelsOf m c b) (boxOf m c (y 1)) (y 0)

/-- The labels are one block. -/
theorem index_0 : ∀ t : Fin cfg0.N, win0_0.index t = ![0, 0, 0] := (by decide +kernel : ∀ t : Fin grid0.N, _)
/-- The default boxes are taken in blocks of 4096, in order. -/
theorem index_1 : ∀ t : Fin cfg0.N, win0_1.index t = ![0, (grid0.coords t 0).val] := (by decide +kernel : ∀ t : Fin grid0.N, _)
/-- The encoded rows are taken in blocks of 4096 default boxes, in order. -/
theorem index_2 : ∀ t : Fin cfg0.N, win0_2.index t = ![0, 0, (grid0.coords t 0).val] := (by decide +kernel : ∀ t : Fin grid0.N, _)
/-- A block of default boxes is full or ends where the array does. -/
theorem xsize_1 : ∀ t : Fin cfg0.N, win0_1.xsize (grid0.coords t) 0 = 4 ∧ (win0_1.xsize (grid0.coords t) 1 = 4096 ∨ (grid0.coords t 0).val * 4096 + win0_1.xsize (grid0.coords t) 1 = 20000) :=
  (by decide +kernel : ∀ t : Fin grid0.N, _)
/-- The lanes of a block that are written lie inside the array. -/
theorem xsize_2 : ∀ t : Fin cfg0.N, (grid0.coords t 0).val * 4096 + win0_2.xsize (grid0.coords t) 2 ≤ 20000 :=
  (by decide +kernel : ∀ t : Fin grid0.N, _)

/-- An element of one batch element read from the labels. -/
theorem lb_at (b : Fin 8) (X : S8x100x5.Idx → Elt Ideal .f32) (a : Fin 100) (k : Fin 5) : lb b X (ix3 0 a k) = X (ix3 b a k) := by
  unfold lb
  congr 1
  funext x
  apply Fin.ext
  fin_cases x
  · show b.val + 1 * 0 = b.val; omega
  · show 0 + 1 * a.val = a.val; omega
  · show 0 + 1 * k.val = k.val; omega

/-- An element of the default boxes read. -/
theorem ldb_at (X : S4x4096.Idx → Elt Ideal .f32) (a : Fin 4) (l : Fin 4096) : ldb X (ix2 a l) = X (ix2 a l) := by
  unfold ldb
  congr 1
  funext x
  apply Fin.ext
  fin_cases x
  · show 0 + 1 * a.val = a.val; omega
  · show 0 + 1 * l.val = l.val; omega

/-- Every point stages all labels. -/
theorem labels_block (c : Dev nD) (t : Fin cfg0.N) (b : Fin 8) : labels (lb b (iblk m c 0 t)) = labelsOf m c b := by
  funext a k
  unfold labels labelsOf
  rw [lb_at]
  blk_simp [iblk]
  congr 1
  blk_ext [index_0]

/-- A lane inside the array stages the default box it stands for, whatever the buffer held past the array's end. -/
theorem boxes_block (c : Dev nD) (t : Fin cfg0.N) (d) (l : Fin 4096) (h : (grid0.coords t 0).val * 4096 + l.val < 20000) :
    box (ldb (win0_1.fill (grid0.coords t) d (iblk m c 1 t))) l = boxOf m c ⟨(grid0.coords t 0).val * 4096 + l.val, h⟩ := by
  funext a
  unfold box boxOf
  rw [ldb_at]
  have hm : win0_1.moved (grid0.coords t) (ix2 a l) = true := (win0_1.moved_iff (grid0.coords t) (ix2 a l)).mpr fun x => by
    obtain ⟨h0, h1⟩ := xsize_1 t
    fin_cases x
    · show a.val < win0_1.xsize (grid0.coords t) 0
      omega
    · show l.val < win0_1.xsize (grid0.coords t) 1
      omega
  unfold Window.fill
  rw [dif_pos hm]
  blk_simp [iblk]
  congr 1
  blk_ext [index_1]

/-! ## What the body leaves, lane by lane -/

/-- The stacked rows of the batch elements at an index. -/
theorem stack_at (P : Fin 8 → FVec Ideal S5x4096 .f32) (b : Fin 8) (k : Fin 5) (l : Fin 4096) : stack P (ix3 b k l) = P b (ix2 k l) := by
  show shapeCast S1x5x4096 (P b) shapeCasts_S5x4096_S1x5x4096 (ix3 0 k l) = _
  generalize P b = p
  pointwise

/-- If a disjunction is not one, neither side is. -/
theorem bit_zero_of_ori {a b : BitVec 1} (h : Scalar.ori a b ≠ 1#1) : a ≠ 1#1 ∧ b ≠ 1#1 := by
  revert a b; decide

/-- If the flag of all batch elements is down, every flag is. -/
theorem bits_zero (e : Fin 8 → BitVec 1) (h : Scalar.cmpi .ne (Scalar.extui (Scalar.ori (Scalar.ori (Scalar.ori (Scalar.ori (Scalar.ori (Scalar.ori
    (Scalar.ori (e 0) (e 1)) (e 2)) (e 3)) (e 4)) (e 5)) (e 6)) (e 7)) : BitVec 32) 0#32 ≠ 1#1) (b : Fin 8) : e b ≠ 1#1 := by
  have hz : ∀ a : BitVec 1, Scalar.cmpi .ne (Scalar.extui a : BitVec 32) 0#32 ≠ 1#1 → a ≠ 1#1 := by decide
  obtain ⟨h, h7⟩ := bit_zero_of_ori (hz _ h)
  obtain ⟨h, h6⟩ := bit_zero_of_ori h
  obtain ⟨h, h5⟩ := bit_zero_of_ori h
  obtain ⟨h, h4⟩ := bit_zero_of_ori h
  obtain ⟨h, h3⟩ := bit_zero_of_ori h
  obtain ⟨h, h2⟩ := bit_zero_of_ori h
  obtain ⟨h0, h1⟩ := bit_zero_of_ori h
  fin_cases b <;> assumption

/-- No tie of any batch element where the test does not ask for the first rows. -/
theorem tie_of_flag (i : grid0.Coords) (X0 : S8x100x5.Idx → Elt Ideal .f32) (X1 : S4x4096.Idx → Elt Ideal .f32) (h : flag i X0 X1 ≠ 1#1) (b : Fin 8) :
    tie i (lb b X0) (iou (lb b X0) (ldb X1)) ≠ 1#1 := bits_zero (fun b => tie i (lb b X0) (iou (lb b X0) (ldb X1))) h b

/-- The first result's buffer on a lane inside the array, whichever way the rows were chosen. -/
theorem lab_at (i : grid0.Coords) (X0 : S8x100x5.Idx → Elt Ideal .f32) (X1 : S4x4096.Idx → Elt Ideal .f32) (b : Fin 8) (k : Fin 5) (l : Fin 4096)
    (hl : (i 0).val * 4096 + l.val < 20000) : lab i X0 X1 (ix3 b k l) = encode2 (labels (lb b X0)) (box (ldb X1) l) k := by
  unfold lab
  split
  · rw [stack_at, exact_at]
  · rename_i h
    rw [stack_at, plain_at i _ _ _ _ hl (tie_of_flag i X0 X1 h b)]

/-- The overlaps at an index. -/
theorem iou_apply (v : FVec Ideal S1x100x5 .f32) (db : FVec Ideal S4x4096 .f32) (y : S101x4096.Idx) :
    iou v db y = laps (labels v) (box db (y 1)) (y 0) := by
  have hy : y = ix2 (y 0) (y 1) := by funext x; fin_cases x <;> rfl
  exact (congrArg (iou v db) hy).trans (iou_at v db (y 0) (y 1))

variable (c : Dev nD) (t : Fin cfg0.N) (d : win0_1.block.Idx → Elt Ideal .f32)

/-- A lane inside the array: the body's encoded row is the array's. -/
theorem lab_row (b : Fin 8) (k : Fin 5) (l : Fin 4096) (hl : (grid0.coords t 0).val * 4096 + l.val < 20000) :
    lab (grid0.coords t) (iblk m c 0 t) (win0_1.fill (grid0.coords t) d (iblk m c 1 t)) (ix3 b k l)
      = labArr m c (ix3 b k ⟨(grid0.coords t 0).val * 4096 + l.val, hl⟩) := by
  rw [lab_at _ _ _ b k l hl, labels_block, boxes_block m c t d _ hl]
  rfl

/-- The same at an index. -/
theorem lab_spec (y : S8x5x4096.Idx) (hl : (grid0.coords t 0).val * 4096 + (y 2).val < 20000) :
    lab (grid0.coords t) (iblk m c 0 t) (win0_1.fill (grid0.coords t) d (iblk m c 1 t)) y
      = labArr m c (ix3 (y 0) (y 1) ⟨(grid0.coords t 0).val * 4096 + (y 2).val, hl⟩) := by
  have hy : y = ix3 (y 0) (y 1) (y 2) := by funext x; fin_cases x <;> rfl
  exact (congrArg _ hy).trans (lab_row m c t d (y 0) (y 1) (y 2) hl)

/-- A lane inside the array: the body's overlap is the array's. -/
theorem iou_spec (b : Fin 8) (y : S101x4096.Idx) (hl : (grid0.coords t 0).val * 4096 + (y 1).val < 20000) :
    iou (lb b (iblk m c 0 t)) (ldb (win0_1.fill (grid0.coords t) d (iblk m c 1 t))) y
      = lapArr m c b (ix2 (y 0) ⟨(grid0.coords t 0).val * 4096 + (y 1).val, hl⟩) := by
  rw [iou_apply, labels_block, boxes_block m c t d _ hl]
  rfl

/-- The first result: cut at the array's end, the point's block of the encoded rows. -/
theorem lab_block : win0_2.cut (grid0.coords t) (lab (grid0.coords t) (iblk m c 0 t) (win0_1.fill (grid0.coords t) d (iblk m c 1 t)))
    = (win0_2.blk t).view.read (Elt Ideal) (labArr m c) := by
  funext y
  have hx := xsize_2 t
  have h2 : (y 2).val < win0_2.xsize (grid0.coords t) 2 := (y 2).isLt
  have hl : (grid0.coords t 0).val * 4096 + (y 2).val < 20000 := by omega
  refine (lab_spec m c t d (win0_2.xinj (grid0.coords t) y) hl).trans ?_
  blk_simp
  refine congrArg (labArr m c) ?_
  blk_ext [index_2]

/-- An array of overlaps is taken in blocks of 4096 columns, in order. -/
theorem index_3 : ∀ t : Fin cfg0.N, win0_3.index t = ![0, (grid0.coords t 0).val] := (by decide +kernel : ∀ t : Fin grid0.N, _)
/-- The columns of a block that are written lie inside the array. -/
theorem xsize_3 : ∀ t : Fin cfg0.N, (grid0.coords t 0).val * 4096 + win0_3.xsize (grid0.coords t) 1 ≤ 20000 :=
  (by decide +kernel : ∀ t : Fin grid0.N, _)
/-- What agrees with an array at every column inside it is, cut at the array's end, the point's block of the array. -/
theorem columns (G : S101x20000.Idx → EReal) (X : S101x4096.Idx → EReal)
    (h : ∀ (y : S101x4096.Idx) (hl : (grid0.coords t 0).val * 4096 + (y 1).val < 20000), X y = G (ix2 (y 0) ⟨(grid0.coords t 0).val * 4096 + (y 1).val, hl⟩)) :
    win0_3.cut (grid0.coords t) X = (win0_3.blk t).view.read (Elt Ideal) G := by
  funext y
  have hx := xsize_3 t
  have h1 : (y 1).val < win0_3.xsize (grid0.coords t) 1 := (y 1).isLt
  have hl : (grid0.coords t 0).val * 4096 + (y 1).val < 20000 := by omega
  refine (h (win0_3.xinj (grid0.coords t) y) hl).trans ?_
  blk_simp
  refine congrArg G ?_
  blk_ext [index_3]

/-- Result 1 of the region: the point's block of the overlaps of batch element 0. -/
theorem iou_block_3 : win0_3.cut (grid0.coords t) (iou (lb 0 (iblk m c 0 t)) (ldb (win0_1.fill (grid0.coords t) d (iblk m c 1 t))))
    = (win0_3.blk t).view.read (Elt Ideal) (lapArr m c 0) := columns t (lapArr m c 0) _ (iou_spec m c t d 0)
/-- Result 2 of the region: the point's block of the overlaps of batch element 1. -/
theorem iou_block_4 : win0_4.cut (grid0.coords t) (iou (lb 1 (iblk m c 0 t)) (ldb (win0_1.fill (grid0.coords t) d (iblk m c 1 t))))
    = (win0_4.blk t).view.read (Elt Ideal) (lapArr m c 1) := columns t (lapArr m c 1) _ (iou_spec m c t d 1)
/-- Result 3 of the region: the point's block of the overlaps of batch element 2. -/
theorem iou_block_5 : win0_5.cut (grid0.coords t) (iou (lb 2 (iblk m c 0 t)) (ldb (win0_1.fill (grid0.coords t) d (iblk m c 1 t))))
    = (win0_5.blk t).view.read (Elt Ideal) (lapArr m c 2) := columns t (lapArr m c 2) _ (iou_spec m c t d 2)
/-- Result 4 of the region: the point's block of the overlaps of batch element 3. -/
theorem iou_block_6 : win0_6.cut (grid0.coords t) (iou (lb 3 (iblk m c 0 t)) (ldb (win0_1.fill (grid0.coords t) d (iblk m c 1 t))))
    = (win0_6.blk t).view.read (Elt Ideal) (lapArr m c 3) := columns t (lapArr m c 3) _ (iou_spec m c t d 3)
/-- Result 5 of the region: the point's block of the overlaps of batch element 4. -/
theorem iou_block_7 : win0_7.cut (grid0.coords t) (iou (lb 4 (iblk m c 0 t)) (ldb (win0_1.fill (grid0.coords t) d (iblk m c 1 t))))
    = (win0_7.blk t).view.read (Elt Ideal) (lapArr m c 4) := columns t (lapArr m c 4) _ (iou_spec m c t d 4)
/-- Result 6 of the region: the point's block of the overlaps of batch element 5. -/
theorem iou_block_8 : win0_8.cut (grid0.coords t) (iou (lb 5 (iblk m c 0 t)) (ldb (win0_1.fill (grid0.coords t) d (iblk m c 1 t))))
    = (win0_8.blk t).view.read (Elt Ideal) (lapArr m c 5) := columns t (lapArr m c 5) _ (iou_spec m c t d 5)
/-- Result 7 of the region: the point's block of the overlaps of batch element 6. -/
theorem iou_block_9 : win0_9.cut (grid0.coords t) (iou (lb 6 (iblk m c 0 t)) (ldb (win0_1.fill (grid0.coords t) d (iblk m c 1 t))))
    = (win0_9.blk t).view.read (Elt Ideal) (lapArr m c 6) := columns t (lapArr m c 6) _ (iou_spec m c t d 6)
/-- Result 8 of the region: the point's block of the overlaps of batch element 7. -/
theorem iou_block_10 : win0_10.cut (grid0.coords t) (iou (lb 7 (iblk m c 0 t)) (ldb (win0_1.fill (grid0.coords t) d (iblk m c 1 t))))
    = (win0_10.blk t).view.read (Elt Ideal) (lapArr m c 7) := columns t (lapArr m c 7) _ (iou_spec m c t d 7)

end Cert.KernelIdeal.Body

end
-- ==== Proof.Run.lean ====
/- The kernel's run over the extended reals: every result's array after it, as a function of the arguments. -/
module

public import proofs.«01_k».proof.Proof.Blocks

@[expose] public section

set_option maxRecDepth 16384

noncomputable section

namespace Cert.KernelIdeal.Body

open Cert.KernelIdeal Cert.KernelIdeal.Gen Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

/-- The body's triple at a point's buffers. -/
theorem sound_at {F : FTy → Type} [FloatOps F] (c : Dev nD) (t : Fin cfg0.N) (X0 : S8x100x5.Idx → Elt F .f32) (X1 : S4x4096.Idx → Elt F .f32) (X2 : S8x5x4096.Idx → Elt F .f32) (X3 : S101x4096.Idx → Elt F .f32) (X4 : S101x4096.Idx → Elt F .f32) (X5 : S101x4096.Idx → Elt F .f32) (X6 : S101x4096.Idx → Elt F .f32) (X7 : S101x4096.Idx → Elt F .f32) (X8 : S101x4096.Idx → Elt F .f32) (X9 : S101x4096.Idx → Elt F .f32) (X10 : S101x4096.Idx → Elt F .f32) (K : PUnit → sProp (MT nD τ sig Unit (Elt F) ℕ (UR sig nD τ) ℕ)) :
    iprop(owns (c : Thread nD τ) (st0_0 t) fullShare X0 ∗ owns (c : Thread nD τ) (st0_1 t) fullShare X1 ∗ owns (c : Thread nD τ) (st0_2 t) fullShare X2 ∗ owns (c : Thread nD τ) (st0_3 t) fullShare X3 ∗ owns (c : Thread nD τ) (st0_4 t) fullShare X4 ∗ owns (c : Thread nD τ) (st0_5 t) fullShare X5 ∗ owns (c : Thread nD τ) (st0_6 t) fullShare X6 ∗ owns (c : Thread nD τ) (st0_7 t) fullShare X7 ∗ owns (c : Thread nD τ) (st0_8 t) fullShare X8 ∗ owns (c : Thread nD τ) (st0_9 t) fullShare X9 ∗ owns (c : Thread nD τ) (st0_10 t) fullShare X10
        ∗ (iprop(owns (c : Thread nD τ) (st0_0 t) fullShare X0 ∗ owns (c : Thread nD τ) (st0_1 t) fullShare X1 ∗ owns (c : Thread nD τ) (st0_2 t) fullShare (lab (grid0.coords t) X0 X1) ∗ owns (c : Thread nD τ) (st0_3 t) fullShare (iou (lb 0 X0) (ldb X1)) ∗ owns (c : Thread nD τ) (st0_4 t) fullShare (iou (lb 1 X0) (ldb X1)) ∗ owns (c : Thread nD τ) (st0_5 t) fullShare (iou (lb 2 X0) (ldb X1)) ∗ owns (c : Thread nD τ) (st0_6 t) fullShare (iou (lb 3 X0) (ldb X1)) ∗ owns (c : Thread nD τ) (st0_7 t) fullShare (iou (lb 4 X0) (ldb X1)) ∗ owns (c : Thread nD τ) (st0_8 t) fullShare (iou (lb 5 X0) (ldb X1)) ∗ owns (c : Thread nD τ) (st0_9 t) fullShare (iou (lb 6 X0) (ldb X1)) ∗ owns (c : Thread nD τ) (st0_10 t) fullShare (iou (lb 7 X0) (ldb X1))) -∗ K ⟨⟩))
      ⊢ wp frame (wpE (defs₀ (F := F)) Variants.none c none) Set.univ (bodyAt0 t) K :=
  sound (F := F) c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) X0 X1 X2 X3 X4 X5 X6 X7 X8 X9 X10 K

variable (m : (ℓ : Loc nD τ sig) → Buf (Elt Ideal) ℓ) (ρ : Dev nD → PrngReg)

/-- What the results' buffers hold after the body on the part inside the array: the points' blocks of the results' arrays. -/
def outBlk (c : Dev nD) (t : Fin cfg0.N) : (w : Fin cfg0.W) → (cfg0.win w).block.Idx → Elt Ideal (cfg0.win w).elt
  | ⟨0, _⟩ => iblk m c 0 t
  | ⟨1, _⟩ => win0_1.fill (grid0.coords t) (fun _ => (0 : EReal)) (iblk m c 1 t)
  | ⟨2, _⟩ => win0_2.fill (grid0.coords t) (fun _ => (0 : EReal)) ((win0_2.blk t).view.read (Elt Ideal) (labArr m c))
  | ⟨3, _⟩ => win0_3.fill (grid0.coords t) (fun _ => (0 : EReal)) ((win0_3.blk t).view.read (Elt Ideal) (lapArr m c 0))
  | ⟨4, _⟩ => win0_4.fill (grid0.coords t) (fun _ => (0 : EReal)) ((win0_4.blk t).view.read (Elt Ideal) (lapArr m c 1))
  | ⟨5, _⟩ => win0_5.fill (grid0.coords t) (fun _ => (0 : EReal)) ((win0_5.blk t).view.read (Elt Ideal) (lapArr m c 2))
  | ⟨6, _⟩ => win0_6.fill (grid0.coords t) (fun _ => (0 : EReal)) ((win0_6.blk t).view.read (Elt Ideal) (lapArr m c 3))
  | ⟨7, _⟩ => win0_7.fill (grid0.coords t) (fun _ => (0 : EReal)) ((win0_7.blk t).view.read (Elt Ideal) (lapArr m c 4))
  | ⟨8, _⟩ => win0_8.fill (grid0.coords t) (fun _ => (0 : EReal)) ((win0_8.blk t).view.read (Elt Ideal) (lapArr m c 5))
  | ⟨9, _⟩ => win0_9.fill (grid0.coords t) (fun _ => (0 : EReal)) ((win0_9.blk t).view.read (Elt Ideal) (lapArr m c 6))
  | ⟨10, _⟩ => win0_10.fill (grid0.coords t) (fun _ => (0 : EReal)) ((win0_10.blk t).view.read (Elt Ideal) (lapArr m c 7))

/-- The proof data: the arrays as the region finds them; the inputs' buffers keep their blocks; the results' hold `outBlk`. -/
def dats (_ : Fin 1) (c : Dev nD) : Dat τ (Elt Ideal) Unit ℕ (UR sig nD τ) ℕ cfg0 c where
  A w := V m c (Pipeline.arrRef spec0 w)
  after w t := outBlk m c t w
  Φ _ := Pipeline.ΦA cfg0.spec c
  q _ := fullShare
  owed _ := 0

/-- The body called at a point is the point's body. -/
theorem defs₀_row {F : FTy → Type} [FloatOps F] (t : Fin cfg0.N) : defs₀ (F := F) .tc cfg0.body (cfg0.bodyArgs t (cfg0.slots t)) = bodyAt0 t := by
  unfold defs₀; rw [Defs.onTc_tc]

/-- Before a point the first buffer holds the labels. -/
theorem before_0 (c : Dev nD) (t : Fin cfg0.N) (d) : (dats m 0 c).before 0 t d = iblk m c 0 t :=
  before0_0_of m (dats m 0 c) rfl (fun _ => rfl) t d
/-- Before a point the second buffer holds the block of default boxes, whatever lies past its end. -/
theorem before_1 (c : Dev nD) (t : Fin cfg0.N) (d) :
    (dats m 0 c).before 1 t d = win0_1.fill (grid0.coords t) d (iblk m c 1 t) := by
  unfold Dat.before; rw [if_pos (fetch0_1 t)]; rfl

/-- Contents that agree with a block on the part inside the array are what the buffer is stated to hold. -/
theorem handed {w : Window sig grid0} (t : Fin grid0.N) {X Z : w.block.Idx → Elt Ideal .f32} {g : (w.xblock (grid0.coords t)).Idx → Elt Ideal .f32}
    (h : w.cut (grid0.coords t) X = g) (hz : w.cut (grid0.coords t) Z = g) : w.fill (grid0.coords t) X (w.cut (grid0.coords t) Z) = X := by
  rw [hz, ← h, w.fill_cut]

/-- A result's buffer that agrees with its stated contents on the part inside the array is as the point leaves it. -/
theorem leaves_of {F : FTy → Type} {cfg : Cfg sig Λ₀} {c : Dev nD} (dat : Dat τ (Elt F) Unit ℕ (UR sig nD τ) ℕ cfg c) (w : Fin cfg.W) (t : Fin cfg.N)
    (hi : cfg.idle w (cfg.grid.coords t) = false) (hl : cfg.loose w = true) (X : (cfg.win w).block.Idx → Elt F (cfg.win w).elt)
    (h : (cfg.win w).fill (cfg.grid.coords t) X ((cfg.win w).cut (cfg.grid.coords t) (dat.after w t)) = X) :
    owns (c : Thread nD τ) ((cfg.win w).stage (cfg.slots t w)) fullShare X ⊢ dat.leaves w t := by
  unfold Dat.leaves
  rw [hi, hl]
  simp only
  iintro H
  iexists X
  rw [h]
  iexact H

/-- The same for a buffer stated whole. -/
theorem leaves_whole {F : FTy → Type} {cfg : Cfg sig Λ₀} {c : Dev nD} (dat : Dat τ (Elt F) Unit ℕ (UR sig nD τ) ℕ cfg c) (w : Fin cfg.W) (t : Fin cfg.N)
    (hi : cfg.idle w (cfg.grid.coords t) = false) (hl : cfg.loose w = false) :
    owns (c : Thread nD τ) ((cfg.win w).stage (cfg.slots t w)) fullShare (dat.after w t) ⊢ dat.leaves w t := by
  unfold Dat.leaves
  rw [hi, hl]

set_option maxHeartbeats 2000000 in
/-- The body at a point, from the blocks its buffers hold to what it leaves in them. -/
theorem body_step {F : FTy → Type} [FloatOps F] (m : (ℓ : Loc nD τ sig) → Buf (Elt F) ℓ) (c : Dev nD) (dat : Dat τ (Elt F) Unit ℕ (UR sig nD τ) ℕ cfg0 c) (t : Fin cfg0.N)
    (hΦ : dat.Φ t.succ = dat.Φ t.castSucc) (hO : dat.owesAt () t.succ = dat.owesAt () t.castSucc)
    (b0 : ∀ d, dat.before 0 t d = iblk m c 0 t) (b1 : ∀ d, dat.before 1 t d = win0_1.fill (grid0.coords t) d (iblk m c 1 t))
    (h0 : dat.after 0 t = iblk m c 0 t)
    (h1 : ∀ d, win0_1.fill (grid0.coords t) (win0_1.fill (grid0.coords t) d (iblk m c 1 t)) (win0_1.cut (grid0.coords t) (dat.after 1 t)) = win0_1.fill (grid0.coords t) d (iblk m c 1 t))
    (h2 : ∀ d, win0_2.fill (grid0.coords t) (lab (grid0.coords t) (iblk m c 0 t) (win0_1.fill (grid0.coords t) d (iblk m c 1 t))) (win0_2.cut (grid0.coords t) (dat.after 2 t)) = (lab (grid0.coords t) (iblk m c 0 t) (win0_1.fill (grid0.coords t) d (iblk m c 1 t))))
    (h3 : ∀ d, win0_3.fill (grid0.coords t) (iou (lb 0 (iblk m c 0 t)) (ldb (win0_1.fill (grid0.coords t) d (iblk m c 1 t)))) (win0_3.cut (grid0.coords t) (dat.after 3 t)) = (iou (lb 0 (iblk m c 0 t)) (ldb (win0_1.fill (grid0.coords t) d (iblk m c 1 t)))))
    (h4 : ∀ d, win0_4.fill (grid0.coords t) (iou (lb 1 (iblk m c 0 t)) (ldb (win0_1.fill (grid0.coords t) d (iblk m c 1 t)))) (win0_4.cut (grid0.coords t) (dat.after 4 t)) = (iou (lb 1 (iblk m c 0 t)) (ldb (win0_1.fill (grid0.coords t) d (iblk m c 1 t)))))
    (h5 : ∀ d, win0_5.fill (grid0.coords t) (iou (lb 2 (iblk m c 0 t)) (ldb (win0_1.fill (grid0.coords t) d (iblk m c 1 t)))) (win0_5.cut (grid0.coords t) (dat.after 5 t)) = (iou (lb 2 (iblk m c 0 t)) (ldb (win0_1.fill (grid0.coords t) d (iblk m c 1 t)))))
    (h6 : ∀ d, win0_6.fill (grid0.coords t) (iou (lb 3 (iblk m c 0 t)) (ldb (win0_1.fill (grid0.coords t) d (iblk m c 1 t)))) (win0_6.cut (grid0.coords t) (dat.after 6 t)) = (iou (lb 3 (iblk m c 0 t)) (ldb (win0_1.fill (grid0.coords t) d (iblk m c 1 t)))))
    (h7 : ∀ d, win0_7.fill (grid0.coords t) (iou (lb 4 (iblk m c 0 t)) (ldb (win0_1.fill (grid0.coords t) d (iblk m c 1 t)))) (win0_7.cut (grid0.coords t) (dat.after 7 t)) = (iou (lb 4 (iblk m c 0 t)) (ldb (win0_1.fill (grid0.coords t) d (iblk m c 1 t)))))
    (h8 : ∀ d, win0_8.fill (grid0.coords t) (iou (lb 5 (iblk m c 0 t)) (ldb (win0_1.fill (grid0.coords t) d (iblk m c 1 t)))) (win0_8.cut (grid0.coords t) (dat.after 8 t)) = (iou (lb 5 (iblk m c 0 t)) (ldb (win0_1.fill (grid0.coords t) d (iblk m c 1 t)))))
    (h9 : ∀ d, win0_9.fill (grid0.coords t) (iou (lb 6 (iblk m c 0 t)) (ldb (win0_1.fill (grid0.coords t) d (iblk m c 1 t)))) (win0_9.cut (grid0.coords t) (dat.after 9 t)) = (iou (lb 6 (iblk m c 0 t)) (ldb (win0_1.fill (grid0.coords t) d (iblk m c 1 t)))))
    (h10 : ∀ d, win0_10.fill (grid0.coords t) (iou (lb 7 (iblk m c 0 t)) (ldb (win0_1.fill (grid0.coords t) d (iblk m c 1 t)))) (win0_10.cut (grid0.coords t) (dat.after 10 t)) = (iou (lb 7 (iblk m c 0 t)) (ldb (win0_1.fill (grid0.coords t) d (iblk m c 1 t))))) :
    iprop(dat.Φ t.castSucc ∗ dat.owesAt () t.castSucc
        ∗ bigSep Finset.univ fun w : Fin cfg0.W => iprop(∃ d, owns (c : Thread nD τ) ((cfg0.win w).stage (cfg0.slots t w)) fullShare (dat.before w t d)))
      ⊢ wp frame (wpE (defs₀ (F := F)) Variants.none c none) Set.univ (defs₀ (F := F) .tc cfg0.body (cfg0.bodyArgs t (cfg0.slots t))) fun _ =>
          iprop(dat.Φ t.succ ∗ dat.owesAt () t.succ ∗ bigSep Finset.univ fun w : Fin cfg0.W => dat.leaves w t) := by
  rw [bigSep_W0, bigSep_W0, defs₀_row, hΦ, hO]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [b0 d0, b1 d1]
  iapply (sound_at c t (iblk m c 0 t) (win0_1.fill (grid0.coords t) d1 (iblk m c 1 t)) (dat.before 2 t d2) (dat.before 3 t d3) (dat.before 4 t d4) (dat.before 5 t d5) (dat.before 6 t d6) (dat.before 7 t d7) (dat.before 8 t d8) (dat.before 9 t d9) (dat.before 10 t d10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]
  · iapply (leaves_whole dat 0 t rfl rfl)
    rw [h0]
    iexact H0
  isplitl [H1]
  · iapply (leaves_of dat 1 t rfl rfl _ (h1 d1))
    iexact H1
  isplitl [H2]
  · iapply (leaves_of dat 2 t rfl rfl _ (h2 d1))
    iexact H2
  isplitl [H3]
  · iapply (leaves_of dat 3 t rfl rfl _ (h3 d1))
    iexact H3
  isplitl [H4]
  · iapply (leaves_of dat 4 t rfl rfl _ (h4 d1))
    iexact H4
  isplitl [H5]
  · iapply (leaves_of dat 5 t rfl rfl _ (h5 d1))
    iexact H5
  isplitl [H6]
  · iapply (leaves_of dat 6 t rfl rfl _ (h6 d1))
    iexact H6
  isplitl [H7]
  · iapply (leaves_of dat 7 t rfl rfl _ (h7 d1))
    iexact H7
  isplitl [H8]
  · iapply (leaves_of dat 8 t rfl rfl _ (h8 d1))
    iexact H8
  isplitl [H9]
  · iapply (leaves_of dat 9 t rfl rfl _ (h9 d1))
    iexact H9
  iapply (leaves_of dat 10 t rfl rfl _ (h10 d1))
  iexact H10

/-- The body's triple against the stated contents. -/
theorem body_obligation (c : Dev nD) : BodyObligationLoose (dats m 0 c) (defs₀ (F := Ideal)) Variants.none () Set.univ := fun t =>
  (body_step m c (dats m 0 c) t rfl rfl (before_0 m c t) (before_1 m c t) rfl
    (fun d => handed (w := win0_1) t (win0_1.cut_fill _ _ _) (win0_1.cut_fill _ _ _))
    (fun d => handed (w := win0_2) t (lab_block m c t d) (win0_2.cut_fill _ _ _))
    (fun d => handed (w := win0_3) t (iou_block_3 m c t d) (win0_3.cut_fill _ _ _))
    (fun d => handed (w := win0_4) t (iou_block_4 m c t d) (win0_4.cut_fill _ _ _))
    (fun d => handed (w := win0_5) t (iou_block_5 m c t d) (win0_5.cut_fill _ _ _))
    (fun d => handed (w := win0_6) t (iou_block_6 m c t d) (win0_6.cut_fill _ _ _))
    (fun d => handed (w := win0_7) t (iou_block_7 m c t d) (win0_7.cut_fill _ _ _))
    (fun d => handed (w := win0_8) t (iou_block_8 m c t d) (win0_8.cut_fill _ _ _))
    (fun d => handed (w := win0_9) t (iou_block_9 m c t d) (win0_9.cut_fill _ _ _))
    (fun d => handed (w := win0_10) t (iou_block_10 m c t d) (win0_10.cut_fill _ _ _))).trans
    (wp_mono _ _ _ fun _ => sep_mono .rfl (sep_mono .rfl (Idealize.SL.BI.bigSep_mono fun w _ => by
      show (dats m 0 c).leaves w t ⊢ _
      unfold Dat.leaves
      exact .rfl)))

end Cert.KernelIdeal.Body

end
-- ==== Proof.KernelRun.lean ====
/- The kernel's run over the extended reals: what its results' arrays hold after it, as functions of its arguments. -/
module

public import proofs.«01_k».proof.Proof.Run
public import Idealize.ShloMosaic.Lib.Pipeline.ValueKit
public import Idealize.ShloMosaic.Lib.StableHlo.RunRead

@[expose] public section

set_option maxRecDepth 16384

noncomputable section

namespace Cert.Boxes

open Idealize.ShloMosaic

/-- A batch element's labels. -/
def labelsAt (L : (⟨3, ![8, 100, 5]⟩ : Shape).Idx → EReal) (b : Fin 8) (a : Fin 100) (k : Fin 5) : EReal := L (ix3 b a k)
/-- A default box. -/
def boxAt (D : (⟨2, ![20000, 4]⟩ : Shape).Idx → EReal) (n : Fin 20000) (a : Fin 4) : EReal := D (ix2 n a)
/-- The overlaps of a batch element. -/
def lapsOut (L : (⟨3, ![8, 100, 5]⟩ : Shape).Idx → EReal) (D : (⟨2, ![20000, 4]⟩ : Shape).Idx → EReal) (b : Fin 8) :
    (⟨2, ![101, 20000]⟩ : Shape).Idx → EReal := fun y => laps (labelsAt L b) (boxAt D (y 1)) (y 0)
/-- The encoded rows. -/
def rowsOut (L : (⟨3, ![8, 100, 5]⟩ : Shape).Idx → EReal) (D : (⟨2, ![20000, 4]⟩ : Shape).Idx → EReal) :
    (⟨3, ![8, 20000, 5]⟩ : Shape).Idx → EReal := fun y => encode (labelsAt L (y 0)) (boxAt D (y 1)) (y 2)
/-- The encoded rows from the two parts of the rows taken. -/
def rowsOut2 (L : (⟨3, ![8, 100, 5]⟩ : Shape).Idx → EReal) (D : (⟨2, ![20000, 4]⟩ : Shape).Idx → EReal) :
    (⟨3, ![8, 20000, 5]⟩ : Shape).Idx → EReal := fun y => encode2 (labelsAt L (y 0)) (boxAt D (y 1)) (y 2)

/-- Below infinity they agree. -/
theorem rowsOut2_eq (L : (⟨3, ![8, 100, 5]⟩ : Shape).Idx → EReal) (D : (⟨2, ![20000, 4]⟩ : Shape).Idx → EReal) (h : ∀ i, L i < ⊤) :
    rowsOut2 L D = rowsOut L D := funext fun y => by
  obtain ⟨b, n, k, rfl⟩ : ∃ b n k, y = ix3 b n k := ⟨y 0, y 1, y 2, eq_ix3 y⟩
  exact congrFun (encode2_eq (labelsAt L b) (fun a k => h _) (boxAt D n)) k

end Cert.Boxes

namespace Cert.KernelIdeal.Body

open Cert.KernelIdeal Cert.KernelIdeal.Gen Cert.Boxes
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- An array whose points' blocks cover it and hold `G`'s blocks holds `G`. -/
theorem final_of {F : FTy → Type} {cfg : Cfg sig Λ₀} {c : Dev nD} (dat : Dat τ (Elt F) Unit ℕ (UR sig nD τ) ℕ cfg c) (w : Fin cfg.W)
    (G : Buf (Elt F) ((cfg.win w).arr.view.loc (c.tc : Thread nD τ))) (hcov : (cfg.win w).Covers) (harr : (cfg.win w).arr.IsWhole)
    (h : ∀ t, dat.flushed w t = ((cfg.win w).blk t).view.read (Elt F) G) : dat.arrAt w cfg.N = G :=
  dat.arrAt_eq_of_cover w G (fun t _ => h t) (hcov.cover _ harr)

/-- The region leaves the encoded rows in its first result. -/
theorem final_2 (c : Dev nD) : (dats m 0 c).arrAt 2 cfg0.N = labArr m c :=
  final_of (dats m 0 c) 2 (labArr m c) (by decide +kernel) (Memref.isWhole_whole _) fun t => win0_2.cut_fill _ _ _
/-- The region leaves the overlaps of batch element 0 in its result. -/
theorem final_3 (c : Dev nD) : (dats m 0 c).arrAt 3 cfg0.N = lapArr m c 0 :=
  final_of (dats m 0 c) 3 (lapArr m c 0) (by decide +kernel) (Memref.isWhole_whole _) fun t => win0_3.cut_fill _ _ _
/-- The region leaves the overlaps of batch element 1 in its result. -/
theorem final_4 (c : Dev nD) : (dats m 0 c).arrAt 4 cfg0.N = lapArr m c 1 :=
  final_of (dats m 0 c) 4 (lapArr m c 1) (by decide +kernel) (Memref.isWhole_whole _) fun t => win0_4.cut_fill _ _ _
/-- The region leaves the overlaps of batch element 2 in its result. -/
theorem final_5 (c : Dev nD) : (dats m 0 c).arrAt 5 cfg0.N = lapArr m c 2 :=
  final_of (dats m 0 c) 5 (lapArr m c 2) (by decide +kernel) (Memref.isWhole_whole _) fun t => win0_5.cut_fill _ _ _
/-- The region leaves the overlaps of batch element 3 in its result. -/
theorem final_6 (c : Dev nD) : (dats m 0 c).arrAt 6 cfg0.N = lapArr m c 3 :=
  final_of (dats m 0 c) 6 (lapArr m c 3) (by decide +kernel) (Memref.isWhole_whole _) fun t => win0_6.cut_fill _ _ _
/-- The region leaves the overlaps of batch element 4 in its result. -/
theorem final_7 (c : Dev nD) : (dats m 0 c).arrAt 7 cfg0.N = lapArr m c 4 :=
  final_of (dats m 0 c) 7 (lapArr m c 4) (by decide +kernel) (Memref.isWhole_whole _) fun t => win0_7.cut_fill _ _ _
/-- The region leaves the overlaps of batch element 5 in its result. -/
theorem final_8 (c : Dev nD) : (dats m 0 c).arrAt 8 cfg0.N = lapArr m c 5 :=
  final_of (dats m 0 c) 8 (lapArr m c 5) (by decide +kernel) (Memref.isWhole_whole _) fun t => win0_8.cut_fill _ _ _
/-- The region leaves the overlaps of batch element 6 in its result. -/
theorem final_9 (c : Dev nD) : (dats m 0 c).arrAt 9 cfg0.N = lapArr m c 6 :=
  final_of (dats m 0 c) 9 (lapArr m c 6) (by decide +kernel) (Memref.isWhole_whole _) fun t => win0_9.cut_fill _ _ _
/-- The region leaves the overlaps of batch element 7 in its result. -/
theorem final_10 (c : Dev nD) : (dats m 0 c).arrAt 10 cfg0.N = lapArr m c 7 :=
  final_of (dats m 0 c) 10 (lapArr m c 7) (by decide +kernel) (Memref.isWhole_whole _) fun t => win0_10.cut_fill _ _ _

/-- The region finds the default boxes turned. -/
theorem V_main_v0 (c : Dev nD) : V m c main_v0 = transpose S4x20000 [1, 0] (m ((c : Thread nD τ).loc main_arg1)) transposes_S20000x4_S4x20000_1_0 := by
  rfl

/-- A default box in the turned array is the default box of the argument. -/
theorem boxOf_eq (c : Dev nD) (n : Fin 20000) : boxOf m c n = boxAt (m ((c : Thread nD τ).loc main_arg1)) n := by
  funext a
  unfold boxOf boxAt
  rw [V_main_v0]
  pointwise
/-- The labels of a batch element, read from the argument. -/
theorem labelsOf_eq (c : Dev nD) (b : Fin 8) : labelsOf m c b = labelsAt (m ((c : Thread nD τ).loc main_arg0)) b := by
  funext a k
  unfold labelsOf labelsAt
  rw [V_main_arg0]

/-- The overlaps the region leaves are the arguments' overlaps. -/
theorem lapArr_eq (c : Dev nD) (b : Fin 8) :
    lapArr m c b = lapsOut (m ((c : Thread nD τ).loc main_arg0)) (m ((c : Thread nD τ).loc main_arg1)) b := by
  funext y
  obtain ⟨r, n, rfl⟩ : ∃ r n, y = ix2 r n := ⟨y 0, y 1, eq_ix2 y⟩
  show laps (labelsOf m c b) (boxOf m c n) r = laps (labelsAt _ b) (boxAt _ n) r
  rw [labelsOf_eq, boxOf_eq]

/-- The first result from the array the region leaves: its two last axes exchanged. -/
theorem tail_v2 (c : Dev nD) : Pipeline.afterTail₀ cfgs (dats m) 0 (V0 m) [hostOps1] c main_v2
    = transpose S8x20000x5 [0, 2, 1] (labArr m c) transposes_S8x5x20000_S8x20000x5_0_2_1 := by
  unfold Pipeline.afterTail₀
  rw [← final_2 m c]
  after_results
  exact congrArg (fun x => transpose S8x20000x5 [0, 2, 1] x transposes_S8x5x20000_S8x20000x5_0_2_1)
    (Pipeline.withArrays_arr spec0 launch0.win.arr_inj c (V0 m c) (fun w => (dats m 0 c).arrAt w cfg0.N) 2)

/-- The encoded rows the region leaves, turned, are the arguments' encoded rows in two parts. -/
theorem turned (c : Dev nD) : transpose S8x20000x5 [0, 2, 1] (labArr m c) transposes_S8x5x20000_S8x20000x5_0_2_1
    = rowsOut2 (m ((c : Thread nD τ).loc main_arg0)) (m ((c : Thread nD τ).loc main_arg1)) := by
  funext y
  obtain ⟨b, n, k, rfl⟩ : ∃ b n k, y = ix3 b n k := ⟨y 0, y 1, y 2, eq_ix3 y⟩
  trans labArr m c (ix3 b k n)
  · pointwise
  · show encode2 (labelsOf m c b) (boxOf m c n) k = encode2 (labelsAt _ b) (boxAt _ n) k
    rw [labelsOf_eq, boxOf_eq]

/-- The kernel over the extended reals: its arguments unchanged, every result a function of them. -/
theorem kernel_run : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v2) = rowsOut2 (m ((c : Thread nD τ).loc main_arg0)) (m ((c : Thread nD τ).loc main_arg1))
      ∧ r.2.mem ((c.tc : Thread nD τ).loc main_v1_1) = lapsOut (m ((c : Thread nD τ).loc main_arg0)) (m ((c : Thread nD τ).loc main_arg1)) 0
      ∧ r.2.mem ((c.tc : Thread nD τ).loc main_v1_2) = lapsOut (m ((c : Thread nD τ).loc main_arg0)) (m ((c : Thread nD τ).loc main_arg1)) 1
      ∧ r.2.mem ((c.tc : Thread nD τ).loc main_v1_3) = lapsOut (m ((c : Thread nD τ).loc main_arg0)) (m ((c : Thread nD τ).loc main_arg1)) 2
      ∧ r.2.mem ((c.tc : Thread nD τ).loc main_v1_4) = lapsOut (m ((c : Thread nD τ).loc main_arg0)) (m ((c : Thread nD τ).loc main_arg1)) 3
      ∧ r.2.mem ((c.tc : Thread nD τ).loc main_v1_5) = lapsOut (m ((c : Thread nD τ).loc main_arg0)) (m ((c : Thread nD τ).loc main_arg1)) 4
      ∧ r.2.mem ((c.tc : Thread nD τ).loc main_v1_6) = lapsOut (m ((c : Thread nD τ).loc main_arg0)) (m ((c : Thread nD τ).loc main_arg1)) 5
      ∧ r.2.mem ((c.tc : Thread nD τ).loc main_v1_7) = lapsOut (m ((c : Thread nD τ).loc main_arg0)) (m ((c : Thread nD τ).loc main_arg1)) 6
      ∧ r.2.mem ((c.tc : Thread nD τ).loc main_v1_8) = lapsOut (m ((c : Thread nD τ).loc main_arg0)) (m ((c : Thread nD τ).loc main_arg1)) 7)
      ∧ r.2.sem = (fun _ => 0)) := by
  refine Pipeline.θ_run_frame_around cfgs (dats m) 0 launch0 defs₀ Variants.none m ρ main (body_obligation m)
    (fun c w => by unfold Dat.share; split <;> rfl) (fun _ _ => rfl) (V0 m) [hostOps1] sfx_sub sfx_fresh sfx_keeps (hmain m Variants.none) (fun _ _ => rfl) (fun _ _ => rfl) _ ?_
  rintro r ⟨h, hs⟩
  refine ⟨fun c => ⟨?_, ?_, ?_, ?_, ?_, ?_, ?_, ?_, ?_, ?_, ?_⟩, hs⟩
  · exact ((h c).1 0).trans (((dats m 0 c).arrAt_in 0 rfl _).trans (V_main_arg0 m c))
  · exact ((h c).2 main_arg1 (Pipeline.mem_restRefs_of main_arg1 (by decide) (by decide))).trans (W_main_arg1 m (dats m) c)
  · exact ((h c).2 main_v2 (Pipeline.mem_restRefs_of main_v2 (by decide) (by decide))).trans ((tail_v2 m c).trans (turned m c))
  · exact ((h c).1 3).trans ((final_3 m c).trans (lapArr_eq m c 0))
  · exact ((h c).1 4).trans ((final_4 m c).trans (lapArr_eq m c 1))
  · exact ((h c).1 5).trans ((final_5 m c).trans (lapArr_eq m c 2))
  · exact ((h c).1 6).trans ((final_6 m c).trans (lapArr_eq m c 3))
  · exact ((h c).1 7).trans ((final_7 m c).trans (lapArr_eq m c 4))
  · exact ((h c).1 8).trans ((final_8 m c).trans (lapArr_eq m c 5))
  · exact ((h c).1 9).trans ((final_9 m c).trans (lapArr_eq m c 6))
  · exact ((h c).1 10).trans ((final_10 m c).trans (lapArr_eq m c 7))

end Cert.KernelIdeal.Body

end
-- ==== Proof.Line.lean ====
/- The reference as a line of host operations: its run, and what the line leaves in every buffer. -/
module

public import proofs.«01_k».proof.Proof.Gen.ReferenceIdeal
public import proofs.«01_k».proof.Proof.Spec
public import Idealize.ShloMosaic.Lib.Claim
public import Idealize.ShloMosaic.Lib.StableHlo.ReadAt
public import Idealize.ShloMosaic.Lib.StableHlo.RunHlo

@[expose] public section

set_option maxRecDepth 16384

noncomputable section

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

set_option maxHeartbeats 4000000 in
/-- The reference's operations in order. -/
def line : {ops : List (HloOp τ sig (Elt Ideal)) // ∀ d, IsSeq (main (F := Ideal) d) ops} := by
  apply Subtype.mk
  hlo_seq

/-- Run from any contents, the reference leaves what its operations compute. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b) = after line.1 (launchContents m d) (Proc.devRef .tc b) :=
  StableHlo.run_hlo _ _ line.2 (by decide) (by decide) (by unfold line; simp)
    (by unfold line; intro _ h; (repeat (cases h with | head => rfl | tail _ h => ?_)); exact nomatch h) m g

/-! ## The operations in stages -/

/-- Contents of every buffer. -/
abbrev Val := Valuation τ sig (Elt Ideal)
/-- The table of the labels. -/
abbrev A (W : Val) := after (line.1.take 13) W
/-- The overlaps. -/
abbrev B (W : Val) := after ((line.1.drop 13).take 52) W
/-- The row of the greatest overlap. -/
abbrev C₀ (W : Val) := after ((line.1.drop 65).take 5) W
/-- The greatest overlap. -/
abbrev C₁ (W : Val) := after ((line.1.drop 70).take 2) W
/-- The row to take. -/
abbrev C (W : Val) := after ((line.1.drop 72).take 12) W
/-- The row taken. -/
abbrev D (W : Val) := after ((line.1.drop 84).take 23) W
/-- Its class, and the default box in its place at class zero. -/
abbrev E (W : Val) := after ((line.1.drop 107).take 10) W
/-- Its centre and sides. -/
abbrev F (W : Val) := after ((line.1.drop 117).take 30) W
/-- The centre and sides of the default box. -/
abbrev H (W : Val) := after ((line.1.drop 147).take 31) W
/-- What is taken off. -/
abbrev I (W : Val) := after ((line.1.drop 178).take 5) W
/-- The encoded centre and sides. -/
abbrev J (W : Val) := after ((line.1.drop 183).take 14) W
/-- The results. -/
abbrev K (W : Val) := after (line.1.drop 197) W

/-- The whole line is its stages in turn. -/
theorem split_line (W : Val) : after line.1 W = K (J (I (H (F (E (D (C (C₁ (C₀ (B (A W))))))))))) := by
  rfl

end Cert.ReferenceIdeal.Line
end
-- ==== Proof.RefTable.lean ====
/- The reference: its table and its overlaps. -/
module

public import proofs.«01_k».proof.Proof.Line

@[expose] public section

set_option maxRecDepth 16384

noncomputable section

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

variable (W : Val)

/-- One where the value is not zero, as the reference converts the comparison. -/
theorem valid_at (c : EReal) : FloatOps.uitofp (F := Ideal) FTy.f32 (BitVec.ofBool (decide (c ≠ 0))) = valid c := by
  unfold valid
  by_cases hc : c = 0
  · rw [if_pos hc, decide_eq_false (by simpa using hc)]; simp [FloatOps.uitofp]
  · rw [if_neg hc, decide_eq_true (by simpa using hc)]; simp [FloatOps.uitofp]
/-- The table that the reference builds: the zero row over the labels. -/
theorem table (b : Fin 8) (r : Fin 101) (k : Fin 5) : (A W (Proc.devRef .tc main_v10) : S8x101x5.Idx → EReal) (ix3 b r k) = row (fun a k => (W (Proc.devRef .tc main_arg0) : S8x100x5.Idx → EReal) (ix3 b a k)) r k := by
  after_reads_at
  unfold row
  congr! 3 with h
  exact valid_at _
set_option maxHeartbeats 2000000 in
/-- The overlaps that the reference computes. -/
theorem laps_at (b : Fin 8) (r : Fin 101) (n : Fin 20000) : (B W (Proc.devRef .tc main_v61) : S8x101x20000.Idx → EReal) (ix3 b r n)
   = overlap (fun k => (W (Proc.devRef .tc main_v10) : S8x101x5.Idx → EReal) (ix3 b r k)) (fun a => (W (Proc.devRef .tc main_arg1) : S20000x4.Idx → EReal) (ix2 n a)) := by
  after_reads_at
  rfl

end Cert.ReferenceIdeal.Line

end
-- ==== Proof.RefBest.lean ====
/- The reference: the greatest overlap of a default box and its flag. -/
module

public import proofs.«01_k».proof.Proof.Line

@[expose] public section

set_option maxRecDepth 16384

noncomputable section

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

variable (W : Val)

/-- The greatest of the overlaps of a default box, as the reference folds it. -/
theorem max_at (f : S8x101x20000.Idx → EReal) (h1 h2) (b : Fin 8) (n : Fin 20000) :
    (Host.reduce (α := EReal) (s := S8x101x20000) (axes := [1]) (t := S8x20000) (FloatOps.maximumf (F := Ideal) (φ := .f32)) f (constant (F := Ideal) S_ FTy.f32 4286578688#32) h1 h2) (ix2 b n) = best fun r => f (ix3 b r n) := by
  pointwise
  rw [ofBits_bot]
  rfl
/-- The greatest overlap, as the reference stores it. -/
theorem v63 (b : Fin 8) (n : Fin 20000) : (C₁ W (Proc.devRef .tc main_v63) : S8x20000.Idx → EReal) (ix2 b n)
    = best fun r => (W (Proc.devRef .tc main_v61) : S8x101x20000.Idx → EReal) (ix3 b r n) := by
  after_reads_simp
  exact max_at _ _ _ b n
/-- The flag of a default box: one where its greatest overlap is above one half. -/
theorem w66 (b : Fin 8) (n : Fin 20000) : (C W (Proc.devRef .tc main_v66) : S8x20000.Idx → EReal) (ix2 b n)
    = (if half < (W (Proc.devRef .tc main_v63) : S8x20000.Idx → EReal) (ix2 b n) then (1 : EReal) else 0) := by
  after_reads_at
/-- The flag as an integer. -/
theorem fptosi_flag (p : Prop) [Decidable p] : FloatOps.fptosi (F := Ideal) (φ := .f32) 32 (if p then (1 : EReal) else 0) = if p then 1#32 else 0#32 := by
  have h1 : Ideal.fptosi 32 (1 : EReal) = 1#32 := by
    rw [← EReal.coe_one, Ideal.fptosi, Ideal.toIntClamped_coe]; norm_num
  have h0 : Ideal.fptosi 32 (0 : EReal) = 0#32 := by
    rw [← EReal.coe_zero, Ideal.fptosi, Ideal.toIntClamped_coe]; norm_num
  split
  · exact h1
  · exact h0
/-- An integer times the flag. -/
theorem mul_flag (p : Prop) [Decidable p] (a : BitVec 32) : IntOp.muli a (if p then 1#32 else 0#32) = if p then a else 0#32 := by
  split <;> simp [IntOp.muli]
/-- The row that the reference takes: the one found where the flag is one, the zero row elsewhere. -/
theorem w68 (b : Fin 8) (n : Fin 20000) : (C W (Proc.devRef .tc main_v68) : S8x20000.Idx → BitVec 32) (ix2 b n)
    = (if half < (W (Proc.devRef .tc main_v63) : S8x20000.Idx → EReal) (ix2 b n) then ((W (Proc.devRef .tc main_v62) : S8x20000.Idx → BitVec 32) (ix2 b n) : BitVec 32) else 0#32) := by
  after_reads_at
  exact (congrArg _ (fptosi_flag _)).trans (mul_flag _ _)

end Cert.ReferenceIdeal.Line

end
-- ==== Proof.RefPick.lean ====
/- The reference: the row of the greatest overlap. -/
module

public import proofs.«01_k».proof.Proof.Line

@[expose] public section

set_option maxRecDepth 16384

noncomputable section

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

variable (W : Val)

/-- One step of the search for the greatest value. -/
theorem step (a b : EReal × BitVec 32) : (reducer_argmax_f32_i32 (F := Ideal) a b) = if b.1 < a.1 ∨ (a.1 = b.1 ∧ a.2.toInt < b.2.toInt) then a else b := by
  unfold reducer_argmax_f32_i32
  have e1 : FloatOps.cmpf (F := Ideal) (φ := .f32) .une a.1 a.1 = 0#1 := by simp [Ideal.cmpf_def, Ideal.cmp]
  dsimp only
  rw [e1]
  simp only [Ideal.cmpf_def, Ideal.cmp, IntOp.cmpi, IntOp.ori, IntOp.andi, Scalar.select]
  by_cases h1 : b.1 < a.1
  · have e2 : ∀ x : Bool, 1#1 ||| BitVec.ofBool x = 1#1 := by decide
    simp [h1, e2]
  · by_cases h2 : a.1 = b.1
    · by_cases h3 : a.2.toInt < b.2.toInt
      · simp [h1, h2, h3, BitVec.slt]
        exact Prod.ext h2.symm rfl
      · simp [h1, h2, h3, BitVec.slt]
    · simp [h1, h2]
/-- The search over a list: it ends at the start or at an element, and at one that no other exceeds, the least index among equals. -/
theorem search (l : List (EReal × BitVec 32)) (p : EReal × BitVec 32) :
    (l.foldl (reducer_argmax_f32_i32 (F := Ideal)) p) ∈ p :: l
    ∧ ∀ q ∈ p :: l, q.1 ≤ (l.foldl (reducer_argmax_f32_i32 (F := Ideal)) p).1
      ∧ (q.1 = (l.foldl (reducer_argmax_f32_i32 (F := Ideal)) p).1 → (l.foldl (reducer_argmax_f32_i32 (F := Ideal)) p).2.toInt ≤ q.2.toInt) := by
  induction l generalizing p with
  | nil => simp
  | cons x l ih =>
    rw [List.foldl_cons]
    obtain ⟨h1, h2⟩ := ih (reducer_argmax_f32_i32 (F := Ideal) p x)
    generalize hr : l.foldl (reducer_argmax_f32_i32 (F := Ideal)) (reducer_argmax_f32_i32 (F := Ideal) p x) = r at h1 h2 ⊢
    have hs := step p x
    generalize reducer_argmax_f32_i32 (F := Ideal) p x = s at h1 h2 hs
    have h0 := h2 s List.mem_cons_self
    constructor
    · rcases List.mem_cons.mp h1 with h | h
      · rw [h, hs]; split <;> simp
      · simp [h]
    · intro q hq
      rcases List.mem_cons.mp hq with rfl | hq
      · by_cases c : x.1 < q.1 ∨ (q.1 = x.1 ∧ q.2.toInt < x.2.toInt)
        · rw [if_pos c] at hs; rw [← hs]; exact h0
        · rw [if_neg c] at hs; subst hs
          push Not at c
          refine ⟨c.1.trans h0.1, fun e => ?_⟩
          have e' : q.1 = s.1 := le_antisymm c.1 (e ▸ h0.1)
          exact (h0.2 (e' ▸ e)).trans (c.2 e')
      · rcases List.mem_cons.mp hq with rfl | hq
        · by_cases c : q.1 < p.1 ∨ (p.1 = q.1 ∧ p.2.toInt < q.2.toInt)
          · rw [if_pos c] at hs; subst hs
            rcases c with c | c
            · exact ⟨c.le.trans h0.1, fun e => absurd (c.trans_le h0.1) (by rw [e]; exact lt_irrefl _)⟩
            · exact ⟨c.1 ▸ h0.1, fun e => (h0.2 (c.1.trans e)).trans c.2.le⟩
          · rw [if_neg c] at hs; rw [← hs]; exact h0
        · exact h2 q (List.mem_cons_of_mem _ hq)
/-- Without its middle coordinate an index of the overlaps is an index of the results. -/
theorem drop_ix3 (h : S8x101x20000.ReducesTo [1] S8x20000) (b : Fin 8) (r : Fin 101) (n : Fin 20000) : h.drop (ix3 b r n) = ix2 b n := by
  funext a
  match a with
  | ⟨0, _⟩ => rfl
  | ⟨1, _⟩ => rfl
/-- The pairs that the search runs over: the overlaps of a default box with their rows. -/
theorem mem_fiber (f : S8x101x20000.Idx → EReal) (h : S8x101x20000.ReducesTo [1] S8x20000) (b : Fin 8) (n : Fin 20000) (p : EReal × BitVec 32) :
    p ∈ Host.argReduceFiber f (iotaInDim S8x101x20000 32 1) h (ix2 b n) ↔ ∃ r : Fin 101, p = (f (ix3 b r n), BitVec.ofNat 32 r.val) := by
  unfold Host.argReduceFiber
  rw [List.mem_map]
  constructor
  · rintro ⟨m, hm, rfl⟩
    have hd := of_decide_eq_true (List.mem_filter.mp hm).2
    generalize S8x101x20000.rowMajor.symm m = y at hd
    obtain ⟨b', r, n', rfl⟩ : ∃ b' r n', y = ix3 b' r n' := ⟨y 0, y 1, y 2, eq_ix3 y⟩
    rw [drop_ix3] at hd
    obtain rfl : b' = b := congrFun hd 0
    obtain rfl : n' = n := congrFun hd 1
    exact ⟨r, rfl⟩
  · rintro ⟨r, rfl⟩
    refine ⟨S8x101x20000.rowMajor (ix3 b r n), List.mem_filter.mpr ⟨List.mem_finRange _, decide_eq_true ?_⟩, ?_⟩
    · rw [Equiv.symm_apply_apply, drop_ix3]
    · rw [Equiv.symm_apply_apply]; rfl
/-- The index that the reference's search finds is the first of the greatest. -/
theorem argmax_at (f : S8x101x20000.Idx → EReal) (h1 : S8x101x20000.ReducesTo [1] S8x20000) (h2 : 0 < S_.numel) (b : Fin 8) (n : Fin 20000) :
    (Host.argReduce (F := Ideal) (φ := .f32) reducer_argmax_f32_i32 f (iotaInDim S8x101x20000 32 1)
        (constant S_ FTy.f32 4286578688#32) (constantI S_ 32 0#32) h1 h2 (ix2 b n)).2
      = BitVec.ofNat 32 (pick fun r => f (ix3 b r n)).val := by
  rw [Ideal.argReduce_eq_reduce2, Host.reduce2_eq_foldl_fiber]
  have h0 : ((constant (F := Ideal) S_ FTy.f32 4286578688#32) (Shape.Idx.first h2), (constantI S_ 32 0#32) (Shape.Idx.first h2)) = ((⊥ : EReal), 0#32) :=
    Prod.ext ofBits_bot rfl
  obtain ⟨hm, hg⟩ := search (Host.argReduceFiber f (iotaInDim S8x101x20000 32 1) h1 (ix2 b n)) (⊥, 0#32)
  rw [h0]
  generalize List.foldl _ _ _ = p at hm hg
  have hi : ∀ q : Fin 101, (BitVec.ofNat 32 q.val).toInt = q.val := by decide
  have hr : ∀ q : Fin 101, f (ix3 b q n) ≤ p.1 ∧ (f (ix3 b q n) = p.1 → p.2.toInt ≤ q.val) := fun q => by
    have := hg _ (List.mem_cons_of_mem _ ((mem_fiber f h1 b n _).mpr ⟨q, rfl⟩))
    rw [hi] at this
    exact this
  have hb : best (fun r => f (ix3 b r n)) ≤ p.1 := by
    rw [← pick_best]; exact (hr _).1
  rcases List.mem_cons.mp hm with h | h
  · subst h
    have : (0 : Fin 101) = pick fun r => f (ix3 b r n) :=
      eq_pick _ 0 (le_antisymm (le_best (fun r => f (ix3 b r n)) 0) (hb.trans bot_le)) fun q _ => Fin.zero_le q
    rw [← this]; rfl
  · obtain ⟨r, rfl⟩ := (mem_fiber f h1 b n p).mp h
    have : r = pick fun r => f (ix3 b r n) := by
      have e : f (ix3 b r n) = best fun r => f (ix3 b r n) := le_antisymm (le_best (fun r => f (ix3 b r n)) r) hb
      refine eq_pick _ r e fun q hq => ?_
      have := (hr q).2 (hq.trans e.symm)
      rw [hi] at this
      exact Fin.le_def.mpr (by exact_mod_cast this)
    rw [← this]
/-- The index found, as the reference stores it. -/
theorem v62 (b : Fin 8) (n : Fin 20000) : (C₀ W (Proc.devRef .tc main_v62) : S8x20000.Idx → BitVec 32) (ix2 b n)
    = BitVec.ofNat 32 (pick fun r => (W (Proc.devRef .tc main_v61) : S8x101x20000.Idx → EReal) (ix3 b r n)).val := by
  after_reads_at
  exact argmax_at _ _ _ b n

end Cert.ReferenceIdeal.Line

end
-- ==== Proof.RefTake.lean ====
/- The reference: the row taken from the table. -/
module

public import proofs.«01_k».proof.Proof.Line

@[expose] public section

set_option maxRecDepth 16384

noncomputable section

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

variable (W : Val)

/-- The dimensions of the gather. -/
abbrev gd := gather_S8x101x5_S8x20000x1_S8x20000x5_2_1_0_0_1_2_115
/-- The rows gathered, where the index is a row of the table. -/
theorem gather_at (x : S8x101x5.Idx → EReal) (i : IVec S8x20000x1 32) (b : Fin 8) (n : Fin 20000) (k : Fin 5) (q : Fin 101)
    (h : i (ix3 b n 0) = BitVec.ofNat 32 q.val) : Host.gather gd x i (ix3 b n k) = x (ix3 b q k) := by
  unfold Host.gather
  congr 1
  funext a
  refine Fin.ext ?_
  show gd.start (ix3 b n k) i a + gd.batchCoord (ix3 b n k) a + gd.offCoord (ix3 b n k) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl)]
    rw [GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gd.operandBatchingDims from List.mem_singleton.mpr rfl)]
    rfl
  · rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix3 b n k) ⟨List.idxOf (1 : Fin 3) gd.startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    have hv : ∀ q : Fin 101, min (BitVec.ofNat 32 q.val).toInt.toNat 100 = q.val := by decide
    refine Eq.trans ?_ (hv q)
    rw [← h, ← hsi]
    rfl
  · rw [GatherDims.batchCoord_eq_zero _ _ _ (show (2 : Fin 3) ∉ [(0 : Fin 3)] by decide)]
    have hs : gd.start (ix3 b n k) i (2 : Fin 3) = 0 := by
      unfold GatherDims.start
      exact dif_neg (show (2 : Fin 3) ∉ [(1 : Fin 3)] by decide)
    rw [hs]
    simp only [Nat.zero_add, Nat.add_zero]
    rfl
/-- An index of a row is not negative, so it stays. -/
theorem wrap : ∀ q : Fin 101, Scalar.select (IntOp.cmpi CmpIPredicate.slt (BitVec.ofNat 32 q.val) 0#32) (IntOp.addi (BitVec.ofNat 32 q.val) 101#32) (BitVec.ofNat 32 q.val) = BitVec.ofNat 32 q.val := by decide
/-- An index of a row is in range. -/
theorem inside : ∀ q : Fin 101, IntOp.andi (IntOp.cmpi CmpIPredicate.sge (BitVec.ofNat 32 q.val) 0#32) (IntOp.cmpi CmpIPredicate.sle (BitVec.ofNat 32 q.val) 100#32) = 1#1 := by decide
/-- The row taken from the table. -/
theorem v69 (b : Fin 8) (n : Fin 20000) (k : Fin 5) (q : Fin 101) (hq : (W (Proc.devRef .tc main_v68) : S8x20000.Idx → BitVec 32) (ix2 b n) = BitVec.ofNat 32 q.val) :
   (D W (Proc.devRef .tc main_v69) : S8x20000x5.Idx → EReal) (ix3 b n k)
   = (W (Proc.devRef .tc main_v10) : S8x101x5.Idx → EReal) (ix3 b q k) := by
  after_reads_at
  rw [gather_at _ _ b n k q]
  · rw [hq]
    simp only [wrap, inside]
    rw [show Finset.fold IntOp.andi (1#1) (fun _ : Fin 1 => 1#1) Finset.univ = 1#1 by decide]
    rfl
  · pointwise
    rw [hq, wrap]

end Cert.ReferenceIdeal.Line

end
-- ==== Proof.RefEdges.lean ====
/- The reference: centres and sides. -/
module

public import proofs.«01_k».proof.Proof.Line

@[expose] public section

set_option maxRecDepth 16384

noncomputable section

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

variable (W : Val)

/-- The row taken, with the default box in its place where its class is zero. -/
theorem v76 (b : Fin 8) (n : Fin 20000) (k : Fin 4) : (E W (Proc.devRef .tc main_v76) : S8x20000x4.Idx → EReal) (ix3 b n k)
   = edge (fun a => (W (Proc.devRef .tc main_arg1) : S20000x4.Idx → EReal) (ix2 n a)) ((W (Proc.devRef .tc main_v69) : S8x20000x5.Idx → EReal) (ix3 b n 4)) (fun a => (W (Proc.devRef .tc main_v69) : S8x20000x5.Idx → EReal) (ix3 b n a)) k := by
  after_reads_at
  rfl
/-- Its class. -/
theorem v71 (b : Fin 8) (n : Fin 20000) : (E W (Proc.devRef .tc main_v71) : S8x20000.Idx → EReal) (ix2 b n)
   = (W (Proc.devRef .tc main_v69) : S8x20000x5.Idx → EReal) (ix3 b n 4) := by
  after_reads_at
/-- The centre and the sides of four edges. -/
def centred (e : Fin 4 → EReal) : Fin 4 → EReal
  | 0 => (e 2 + e 0) * half
  | 1 => (e 3 + e 1) * half
  | 2 => e 2 - e 0
  | 3 => e 3 - e 1
/-- The first centre of the row taken. -/
theorem v101 (b : Fin 8) (n : Fin 20000) : (F W (Proc.devRef .tc main_v101) : S8x20000x1.Idx → EReal) (ix3 b n 0)
   = centred (fun a => (W (Proc.devRef .tc main_v76) : S8x20000x4.Idx → EReal) (ix3 b n a)) 0 := by
  after_reads_at
  exact div_two _
/-- The second centre of the row taken. -/
theorem v102 (b : Fin 8) (n : Fin 20000) : (F W (Proc.devRef .tc main_v102) : S8x20000x1.Idx → EReal) (ix3 b n 0)
   = centred (fun a => (W (Proc.devRef .tc main_v76) : S8x20000x4.Idx → EReal) (ix3 b n a)) 1 := by
  after_reads_at
  exact div_two _
/-- The first side of the row taken. -/
theorem v103 (b : Fin 8) (n : Fin 20000) : (F W (Proc.devRef .tc main_v103) : S8x20000x1.Idx → EReal) (ix3 b n 0)
   = centred (fun a => (W (Proc.devRef .tc main_v76) : S8x20000x4.Idx → EReal) (ix3 b n a)) 2 := by
  after_reads_at
  rfl
/-- The second side of the row taken. -/
theorem v104 (b : Fin 8) (n : Fin 20000) : (F W (Proc.devRef .tc main_v104) : S8x20000x1.Idx → EReal) (ix3 b n 0)
   = centred (fun a => (W (Proc.devRef .tc main_v76) : S8x20000x4.Idx → EReal) (ix3 b n a)) 3 := by
  after_reads_at
  rfl
/-- The centre and the sides of the row taken, joined. -/
theorem v105_F (b : Fin 8) (n : Fin 20000) (k : Fin 4) : (H (F W) (Proc.devRef .tc main_v105) : S8x20000x4.Idx → EReal) (ix3 b n k)
   = centred (fun a => (W (Proc.devRef .tc main_v76) : S8x20000x4.Idx → EReal) (ix3 b n a)) k := by
  generalize hX : F W = X
  match k with
  | 0 => rw [← v101, hX]; after_reads_at
  | 1 => rw [← v102, hX]; after_reads_at
  | 2 => rw [← v103, hX]; after_reads_at
  | 3 => rw [← v104, hX]; after_reads_at
/-- The first centre of the default box. -/
theorem v130 (n : Fin 20000) : (H W (Proc.devRef .tc main_v130) : S20000x1.Idx → EReal) (ix2 n 0)
   = centred (fun a => (W (Proc.devRef .tc main_arg1) : S20000x4.Idx → EReal) (ix2 n a)) 0 := by
  after_reads_at
  exact div_two _
/-- The second centre of the default box. -/
theorem v131 (n : Fin 20000) : (H W (Proc.devRef .tc main_v131) : S20000x1.Idx → EReal) (ix2 n 0)
   = centred (fun a => (W (Proc.devRef .tc main_arg1) : S20000x4.Idx → EReal) (ix2 n a)) 1 := by
  after_reads_at
  exact div_two _
/-- The first side of the default box. -/
theorem v132 (n : Fin 20000) : (H W (Proc.devRef .tc main_v132) : S20000x1.Idx → EReal) (ix2 n 0)
   = centred (fun a => (W (Proc.devRef .tc main_arg1) : S20000x4.Idx → EReal) (ix2 n a)) 2 := by
  after_reads_at
  rfl
/-- The second side of the default box. -/
theorem v133 (n : Fin 20000) : (H W (Proc.devRef .tc main_v133) : S20000x1.Idx → EReal) (ix2 n 0)
   = centred (fun a => (W (Proc.devRef .tc main_arg1) : S20000x4.Idx → EReal) (ix2 n a)) 3 := by
  after_reads_at
  rfl
/-- The centre and the sides of the default box, joined. -/
theorem v134_H (n : Fin 20000) (k : Fin 4) : (I (H W) (Proc.devRef .tc main_v134) : S20000x4.Idx → EReal) (ix2 n k)
   = centred (fun a => (W (Proc.devRef .tc main_arg1) : S20000x4.Idx → EReal) (ix2 n a)) k := by
  generalize hX : H W = X
  match k with
  | 0 => rw [← v130, hX]; after_reads_at
  | 1 => rw [← v131, hX]; after_reads_at
  | 2 => rw [← v132, hX]; after_reads_at
  | 3 => rw [← v133, hX]; after_reads_at
/-- The first centre that is taken off. -/
theorem v135_0 (n : Fin 20000) : (I (H W) (Proc.devRef .tc main_v135) : S20000x2.Idx → EReal) (ix2 n 0)
   = centred (fun a => (W (Proc.devRef .tc main_arg1) : S20000x4.Idx → EReal) (ix2 n a)) 0 := by
  generalize hX : H W = X
  rw [← v130, hX]; after_reads_at; rfl
/-- The second centre that is taken off. -/
theorem v135_1 (n : Fin 20000) : (I (H W) (Proc.devRef .tc main_v135) : S20000x2.Idx → EReal) (ix2 n 1)
   = centred (fun a => (W (Proc.devRef .tc main_arg1) : S20000x4.Idx → EReal) (ix2 n a)) 1 := by
  generalize hX : H W = X
  rw [← v131, hX]; after_reads_at; rfl

end Cert.ReferenceIdeal.Line

end
-- ==== Proof.RefCode.lean ====
/- The reference: the encoded row. -/
module

public import proofs.«01_k».proof.Proof.Line

@[expose] public section

set_option maxRecDepth 16384

noncomputable section

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

variable (W : Val)

/-- A value of an array at an index. -/
abbrev real (x : EReal) : EReal := x
/-- Nothing is taken off the sides. -/
theorem v137 (n : Fin 20000) (a) : (I W (Proc.devRef .tc main_v137) : S20000x2.Idx → EReal) (ix2 n a)
   = (0 : EReal) := by
  after_reads_at
/-- The first centre encoded. -/
theorem v149_0 (b : Fin 8) (n : Fin 20000) : (J W (Proc.devRef .tc main_v149) : S8x20000x2.Idx → EReal) (ix3 b n 0)
   = Ideal.div (real ((W (Proc.devRef .tc main_v105) : S8x20000x4.Idx → EReal) (ix3 b n 0)) - real ((W (Proc.devRef .tc main_v135) : S20000x2.Idx → EReal) (ix2 n 0))) (real ((W (Proc.devRef .tc main_v134) : S20000x4.Idx → EReal) (ix2 n 2))) := by
  after_reads_at
  rfl
/-- The second centre encoded. -/
theorem v149_1 (b : Fin 8) (n : Fin 20000) : (J W (Proc.devRef .tc main_v149) : S8x20000x2.Idx → EReal) (ix3 b n 1)
   = Ideal.div (real ((W (Proc.devRef .tc main_v105) : S8x20000x4.Idx → EReal) (ix3 b n 1)) - real ((W (Proc.devRef .tc main_v135) : S20000x2.Idx → EReal) (ix2 n 1))) (real ((W (Proc.devRef .tc main_v134) : S20000x4.Idx → EReal) (ix2 n 3))) := by
  after_reads_at
  rfl
/-- The first side encoded. -/
theorem v151_0 (b : Fin 8) (n : Fin 20000) : (J W (Proc.devRef .tc main_v151) : S8x20000x2.Idx → EReal) (ix3 b n 0)
   = Ideal.log (Ideal.div (real ((W (Proc.devRef .tc main_v105) : S8x20000x4.Idx → EReal) (ix3 b n 2)) - real ((W (Proc.devRef .tc main_v137) : S20000x2.Idx → EReal) (ix2 n 0))) (real ((W (Proc.devRef .tc main_v134) : S20000x4.Idx → EReal) (ix2 n 2)))) := by
  after_reads_at
  rfl
/-- The second side encoded. -/
theorem v151_1 (b : Fin 8) (n : Fin 20000) : (J W (Proc.devRef .tc main_v151) : S8x20000x2.Idx → EReal) (ix3 b n 1)
   = Ideal.log (Ideal.div (real ((W (Proc.devRef .tc main_v105) : S8x20000x4.Idx → EReal) (ix3 b n 3)) - real ((W (Proc.devRef .tc main_v137) : S20000x2.Idx → EReal) (ix2 n 1))) (real ((W (Proc.devRef .tc main_v134) : S20000x4.Idx → EReal) (ix2 n 3)))) := by
  after_reads_at
  rfl
/-- Lane 0 of the encoded row. -/
theorem v156_0 (b : Fin 8) (n : Fin 20000) : (K W (Proc.devRef .tc main_v156) : S8x20000x5.Idx → EReal) (ix3 b n 0)
   = (W (Proc.devRef .tc main_v149) : S8x20000x2.Idx → EReal) (ix3 b n 0) := by
  after_reads_at
  rfl
/-- Lane 1 of the encoded row. -/
theorem v156_1 (b : Fin 8) (n : Fin 20000) : (K W (Proc.devRef .tc main_v156) : S8x20000x5.Idx → EReal) (ix3 b n 1)
   = (W (Proc.devRef .tc main_v149) : S8x20000x2.Idx → EReal) (ix3 b n 1) := by
  after_reads_at
  rfl
/-- Lane 2 of the encoded row. -/
theorem v156_2 (b : Fin 8) (n : Fin 20000) : (K W (Proc.devRef .tc main_v156) : S8x20000x5.Idx → EReal) (ix3 b n 2)
   = (W (Proc.devRef .tc main_v151) : S8x20000x2.Idx → EReal) (ix3 b n 0) := by
  after_reads_at
  rfl
/-- Lane 3 of the encoded row. -/
theorem v156_3 (b : Fin 8) (n : Fin 20000) : (K W (Proc.devRef .tc main_v156) : S8x20000x5.Idx → EReal) (ix3 b n 3)
   = (W (Proc.devRef .tc main_v151) : S8x20000x2.Idx → EReal) (ix3 b n 1) := by
  after_reads_at
  rfl
/-- Lane 4 of the encoded row: the class, where the flag is one. -/
theorem v156_4 (b : Fin 8) (n : Fin 20000) : (K W (Proc.devRef .tc main_v156) : S8x20000x5.Idx → EReal) (ix3 b n 4)
   = real ((W (Proc.devRef .tc main_v71) : S8x20000.Idx → EReal) (ix2 b n)) * real ((W (Proc.devRef .tc main_v66) : S8x20000.Idx → EReal) (ix2 b n)) := by
  after_reads_at
  rfl

end Cert.ReferenceIdeal.Line

end
-- ==== Proof.RefKeep.lean ====
/- The reference: the buffers that a stage leaves alone, and the overlaps it returns. -/
module

public import proofs.«01_k».proof.Proof.Line

@[expose] public section

set_option maxRecDepth 16384

noncomputable section

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

variable (W : Val)

/-- `keep X b`: running the operations `X` leaves the buffer `b` as it was. -/
abbrev keep (X : Val → Val) (b : Ref sig .tc) : Prop := ∀ W, X W (Proc.devRef .tc b) = W (Proc.devRef .tc b)
/-- What the stage A leaves alone. -/
theorem keep_A : keep A main_arg1 := by intro W; after_reads_simp
/-- What the stage B leaves alone. -/
theorem keep_B : keep B main_arg1 ∧ keep B main_v10 := by refine ⟨?_, ?_⟩ <;> (intro W; after_reads_simp)
/-- What the stage C₀ leaves alone. -/
theorem keep_C₀ : keep C₀ main_arg1 ∧ keep C₀ main_v10 ∧ keep C₀ main_v61 := by refine ⟨?_, ?_, ?_⟩ <;> (intro W; after_reads_simp)
/-- What the stage C₁ leaves alone. -/
theorem keep_C₁ : keep C₁ main_arg1 ∧ keep C₁ main_v10 ∧ keep C₁ main_v61 ∧ keep C₁ main_v62 := by refine ⟨?_, ?_, ?_, ?_⟩ <;> (intro W; after_reads_simp)
/-- What the stage C leaves alone. -/
theorem keep_C : keep C main_arg1 ∧ keep C main_v10 ∧ keep C main_v61 := by refine ⟨?_, ?_, ?_⟩ <;> (intro W; after_reads_simp)
/-- What the stage D leaves alone. -/
theorem keep_D : keep D main_arg1 ∧ keep D main_v61 ∧ keep D main_v66 := by refine ⟨?_, ?_, ?_⟩ <;> (intro W; after_reads_simp)
/-- What the stage E leaves alone. -/
theorem keep_E : keep E main_arg1 ∧ keep E main_v61 ∧ keep E main_v66 := by refine ⟨?_, ?_, ?_⟩ <;> (intro W; after_reads_simp)
/-- What the stage F leaves alone. -/
theorem keep_F : keep F main_arg1 ∧ keep F main_v61 ∧ keep F main_v66 ∧ keep F main_v71 := by refine ⟨?_, ?_, ?_, ?_⟩ <;> (intro W; after_reads_simp)
/-- What the stage H leaves alone. -/
theorem keep_H : keep H main_v61 ∧ keep H main_v66 ∧ keep H main_v71 := by refine ⟨?_, ?_, ?_⟩ <;> (intro W; after_reads_simp)
/-- What the stage I leaves alone. -/
theorem keep_I : keep I main_v61 ∧ keep I main_v66 ∧ keep I main_v71 ∧ keep I main_v105 := by refine ⟨?_, ?_, ?_, ?_⟩ <;> (intro W; after_reads_simp)
/-- What the stage J leaves alone. -/
theorem keep_J : keep J main_v61 ∧ keep J main_v66 ∧ keep J main_v71 := by refine ⟨?_, ?_, ?_⟩ <;> (intro W; after_reads_simp)
/-- The line leaves its arguments alone. -/
theorem keep_args : keep (after line.1) main_arg0 ∧ keep (after line.1) main_arg1 := by refine ⟨?_, ?_⟩ <;> (intro W; after_reads_simp)
/-- The overlaps of each batch, as the reference returns them. -/
theorem slices (r : Fin 101) (n : Fin 20000) :
    (K W (Proc.devRef .tc main_v158) : S101x20000.Idx → EReal) (ix2 r n) = (W (Proc.devRef .tc main_v61) : S8x101x20000.Idx → EReal) (ix3 0 r n)
    ∧ (K W (Proc.devRef .tc main_v160) : S101x20000.Idx → EReal) (ix2 r n) = (W (Proc.devRef .tc main_v61) : S8x101x20000.Idx → EReal) (ix3 1 r n)
    ∧ (K W (Proc.devRef .tc main_v162) : S101x20000.Idx → EReal) (ix2 r n) = (W (Proc.devRef .tc main_v61) : S8x101x20000.Idx → EReal) (ix3 2 r n)
    ∧ (K W (Proc.devRef .tc main_v164) : S101x20000.Idx → EReal) (ix2 r n) = (W (Proc.devRef .tc main_v61) : S8x101x20000.Idx → EReal) (ix3 3 r n)
    ∧ (K W (Proc.devRef .tc main_v166) : S101x20000.Idx → EReal) (ix2 r n) = (W (Proc.devRef .tc main_v61) : S8x101x20000.Idx → EReal) (ix3 4 r n)
    ∧ (K W (Proc.devRef .tc main_v168) : S101x20000.Idx → EReal) (ix2 r n) = (W (Proc.devRef .tc main_v61) : S8x101x20000.Idx → EReal) (ix3 5 r n)
    ∧ (K W (Proc.devRef .tc main_v170) : S101x20000.Idx → EReal) (ix2 r n) = (W (Proc.devRef .tc main_v61) : S8x101x20000.Idx → EReal) (ix3 6 r n)
    ∧ (K W (Proc.devRef .tc main_v172) : S101x20000.Idx → EReal) (ix2 r n) = (W (Proc.devRef .tc main_v61) : S8x101x20000.Idx → EReal) (ix3 7 r n) := by
  refine ⟨?_, ?_, ?_, ?_, ?_, ?_, ?_, ?_⟩ <;> after_reads_at

end Cert.ReferenceIdeal.Line

end
-- ==== Proof.RefRun.lean ====
/- The reference run: every result a value of its arguments. -/
module

public import proofs.«01_k».proof.Proof.KernelRun
public import proofs.«01_k».proof.Proof.RefTable
public import proofs.«01_k».proof.Proof.RefBest
public import proofs.«01_k».proof.Proof.RefPick
public import proofs.«01_k».proof.Proof.RefTake
public import proofs.«01_k».proof.Proof.RefEdges
public import proofs.«01_k».proof.Proof.RefCode
public import proofs.«01_k».proof.Proof.RefKeep

@[expose] public section

set_option maxRecDepth 16384

noncomputable section

namespace Cert.Boxes

/-- The row taken: the one of the greatest overlap where that is above one half, the zero row elsewhere. -/
def chosen (f : Fin 101 → EReal) : Fin 101 := if half < best f then pick f else 0
/-- One where the greatest overlap is above one half. -/
def flag (f : Fin 101 → EReal) : EReal := if half < best f then 1 else 0

/-- The encoded row, as the reference puts it together from the row it takes. -/
def lane (L : Fin 100 → Fin 5 → EReal) (d : Fin 4 → EReal) (k : Fin 5) : EReal :=
  if k = 4 then row L (chosen (laps L d)) 4 * flag (laps L d)
  else code d (row L (chosen (laps L d)) 4) (row L (chosen (laps L d))) k

/-- It is the encoded row. -/
theorem lane_eq (L : Fin 100 → Fin 5 → EReal) (d : Fin 4 → EReal) (k : Fin 5) : lane L d k = encode L d k := by
  unfold lane encode
  by_cases h : half < best (laps L d)
  · have hq : chosen (laps L d) = pick (laps L d) := if_pos h
    have hf : flag (laps L d) = 1 := if_pos h
    have hc : clsOf (laps L d) (row L (pick (laps L d))) = row L (pick (laps L d)) 4 := if_pos h
    rw [hq, hf, hc, mul_one]
    split
    · subst_vars; rfl
    · rfl
  · have hq : chosen (laps L d) = 0 := if_neg h
    have hf : flag (laps L d) = 0 := if_neg h
    have hc : clsOf (laps L d) (row L (pick (laps L d))) = 0 := if_neg h
    have hz : row L 0 4 = 0 := dif_pos (by decide)
    rw [hq, hf, hc, hz, mul_zero, code_zero d (row L 0) (row L (pick (laps L d)))]
    split
    · subst_vars; rfl
    · rfl

end Cert.Boxes

namespace Cert.ReferenceIdeal.Line

open Cert.ReferenceIdeal Cert.ReferenceIdeal.Gen Cert.Boxes
open Idealize.ShloMosaic Idealize.ShloMosaic.TcCoe Idealize.ShloMosaic.Tactic
open Idealize.SL Idealize.SL.Sem
open StableHlo (IsSeq after launchContents)

/-! ## The stages over the reference's arguments -/

variable (W : Val) (L : S8x100x5.Idx → EReal) (T : S20000x4.Idx → EReal)
variable (hL : W (Proc.devRef .tc main_arg0) = L) (hT : W (Proc.devRef .tc main_arg1) = T)
include hL hT

/-- The table, after its stage. -/
theorem at_10 (b : Fin 8) (r : Fin 101) (k : Fin 5) : (A W (Proc.devRef .tc main_v10) : S8x101x5.Idx → EReal) (ix3 b r k) = row (labelsAt L b) r k := by
  subst hL; exact table W b r k
/-- The overlaps, after theirs. -/
theorem at_61 (b : Fin 8) (r : Fin 101) (n : Fin 20000) :
    (B (A W) (Proc.devRef .tc main_v61) : S8x101x20000.Idx → EReal) (ix3 b r n) = laps (labelsAt L b) (boxAt T n) r := by
  refine (laps_at (A W) b r n).trans ?_
  unfold laps
  congr 1
  · funext k; exact at_10 W L T hL hT b r k
  · funext a; exact congrFun ((keep_A W).trans hT) (ix2 n a)
/-- The row that the reference takes. -/
theorem at_68 (b : Fin 8) (n : Fin 20000) : (C (C₁ (C₀ (B (A W)))) (Proc.devRef .tc main_v68) : S8x20000.Idx → BitVec 32) (ix2 b n)
    = BitVec.ofNat 32 (chosen (laps (labelsAt L b) (boxAt T n))).val := by
  have h61 := fun r => at_61 W L T hL hT b r n
  generalize B (A W) = X at h61
  have e1 := v62 X b n
  have e2 := v63 (C₀ X) b n
  have k1 : C₀ X (Proc.devRef .tc main_v61) = X (Proc.devRef .tc main_v61) := keep_C₀.2.2 X
  have k2 : C₁ (C₀ X) (Proc.devRef .tc main_v62) = C₀ X (Proc.devRef .tc main_v62) := keep_C₁.2.2.2 (C₀ X)
  simp only [k1, h61] at e1 e2
  refine (w68 (C₁ (C₀ X)) b n).trans ?_
  rw [k2, e1, e2]
  unfold chosen
  split <;> rfl
/-- The flag. -/
theorem at_66 (b : Fin 8) (n : Fin 20000) : (C (C₁ (C₀ (B (A W)))) (Proc.devRef .tc main_v66) : S8x20000.Idx → EReal) (ix2 b n)
    = flag (laps (labelsAt L b) (boxAt T n)) := by
  have h61 := fun r => at_61 W L T hL hT b r n
  generalize B (A W) = X at h61
  have e2 := v63 (C₀ X) b n
  have k1 : C₀ X (Proc.devRef .tc main_v61) = X (Proc.devRef .tc main_v61) := keep_C₀.2.2 X
  simp only [k1, h61] at e2
  refine (w66 (C₁ (C₀ X)) b n).trans ?_
  rw [e2]
  rfl
/-- The row taken. -/
theorem at_69 (b : Fin 8) (n : Fin 20000) (k : Fin 5) : (D (C (C₁ (C₀ (B (A W))))) (Proc.devRef .tc main_v69) : S8x20000x5.Idx → EReal) (ix3 b n k)
    = row (labelsAt L b) (chosen (laps (labelsAt L b) (boxAt T n))) k := by
  refine (v69 _ b n k _ (at_68 W L T hL hT b n)).trans ?_
  rw [keep_C.2.1, keep_C₁.2.1, keep_C₀.2.1, keep_B.2]
  exact at_10 W L T hL hT b _ k
/-- The default boxes are still there. -/
theorem arg_D : D (C (C₁ (C₀ (B (A W))))) (Proc.devRef .tc main_arg1) = T := by
  rw [keep_D.1, keep_C.1, keep_C₁.1, keep_C₀.1, keep_B.1, keep_A, hT]
/-- The overlaps are still there at the end. -/
theorem end_61 (b : Fin 8) (r : Fin 101) (n : Fin 20000) :
    (J (I (H (F (E (D (C (C₁ (C₀ (B (A W)))))))))) (Proc.devRef .tc main_v61) : S8x101x20000.Idx → EReal) (ix3 b r n) = laps (labelsAt L b) (boxAt T n) r := by
  rw [keep_J.1, keep_I.1, keep_H.1, keep_F.2.1, keep_E.2.1, keep_D.2.1, keep_C.2.2, keep_C₁.2.2.1, keep_C₀.2.2]
  exact at_61 W L T hL hT b r n
/-- The encoded row. -/
theorem at_156 (b : Fin 8) (n : Fin 20000) (k : Fin 5) :
    (K (J (I (H (F (E (D (C (C₁ (C₀ (B (A W))))))))))) (Proc.devRef .tc main_v156) : S8x20000x5.Idx → EReal) (ix3 b n k) = lane (labelsAt L b) (boxAt T n) k := by
  have h69 := fun k => at_69 W L T hL hT b n k
  have h66 : (D (C (C₁ (C₀ (B (A W))))) (Proc.devRef .tc main_v66) : S8x20000.Idx → EReal) (ix2 b n) = flag (laps (labelsAt L b) (boxAt T n)) := by
    rw [keep_D.2.2]; exact at_66 W L T hL hT b n
  have hd := arg_D W L T hL hT
  generalize D (C (C₁ (C₀ (B (A W))))) = X at h69 h66 hd
  unfold lane
  generalize row (labelsAt L b) (chosen (laps (labelsAt L b) (boxAt T n))) = s at h69
  generalize flag (laps (labelsAt L b) (boxAt T n)) = p at h66
  have hb : ∀ a, (X (Proc.devRef .tc main_arg1) : S20000x4.Idx → EReal) (ix2 n a) = boxAt T n a := fun a => congrFun hd (ix2 n a)
  have h76 : ∀ a, (E X (Proc.devRef .tc main_v76) : S8x20000x4.Idx → EReal) (ix3 b n a) = edge (boxAt T n) (s 4) s a := fun a => by
    refine (v76 X b n a).trans ?_
    rw [h69 4, funext h69, funext hb]
  have h71 : (J (I (H (F (E X)))) (Proc.devRef .tc main_v71) : S8x20000.Idx → EReal) (ix2 b n) = s 4 := by
    rw [keep_J.2.2, keep_I.2.2.1, keep_H.2.2, keep_F.2.2.2]
    exact (v71 X b n).trans (h69 4)
  have h66' : (J (I (H (F (E X)))) (Proc.devRef .tc main_v66) : S8x20000.Idx → EReal) (ix2 b n) = p := by
    rw [keep_J.2.1, keep_I.2.1, keep_H.2.1, keep_F.2.2.1, keep_E.2.2]
    exact h66
  have hb' : ∀ a, (F (E X) (Proc.devRef .tc main_arg1) : S20000x4.Idx → EReal) (ix2 n a) = boxAt T n a := fun a => by
    rw [keep_F.1, keep_E.1]; exact hb a
  have h105 : ∀ a, (I (H (F (E X))) (Proc.devRef .tc main_v105) : S8x20000x4.Idx → EReal) (ix3 b n a) = centred (edge (boxAt T n) (s 4) s) a := fun a => by
    rw [keep_I.2.2.2]
    refine (v105_F (E X) b n a).trans ?_
    rw [funext h76]
  generalize F (E X) = Y at h71 h66' hb' h105
  have h134 := v134_H Y n
  have h0 := v135_0 Y n
  have h1 := v135_1 Y n
  rw [funext hb'] at h134 h0 h1
  have h137 := v137 (H Y) n
  generalize I (H Y) = Z at *
  match k with
  | 0 =>
    rw [if_neg (by decide)]
    refine (v156_0 (J Z) b n).trans ((v149_0 Z b n).trans ?_)
    rw [h105, h134, h0]; rfl
  | 1 =>
    rw [if_neg (by decide)]
    refine (v156_1 (J Z) b n).trans ((v149_1 Z b n).trans ?_)
    rw [h105, h134, h1]; rfl
  | 2 =>
    rw [if_neg (by decide)]
    refine (v156_2 (J Z) b n).trans ((v151_0 Z b n).trans ?_)
    rw [h105, h134, h137]
    unfold real
    rw [sub_zero]; rfl
  | 3 =>
    rw [if_neg (by decide)]
    refine (v156_3 (J Z) b n).trans ((v151_1 Z b n).trans ?_)
    rw [h105, h134, h137]
    unfold real
    rw [sub_zero]; rfl
  | 4 =>
    rw [if_pos rfl]
    refine (v156_4 (J Z) b n).trans ?_
    rw [h71, h66']

/-! ## The results -/

/-- The encoded rows. -/
theorem rows_eq : (after line.1 W (Proc.devRef .tc main_v156) : S8x20000x5.Idx → EReal) = rowsOut L T := funext fun y => by
  obtain ⟨b, n, k, rfl⟩ : ∃ b n k, y = ix3 b n k := ⟨y 0, y 1, y 2, eq_ix3 y⟩
  rw [split_line]
  refine (at_156 W L T hL hT b n k).trans ?_
  exact lane_eq _ _ k
/-- The overlaps of every batch. -/
theorem laps_eq :
    (after line.1 W (Proc.devRef .tc main_v158) : S101x20000.Idx → EReal) = lapsOut L T 0
    ∧ (after line.1 W (Proc.devRef .tc main_v160) : S101x20000.Idx → EReal) = lapsOut L T 1
    ∧ (after line.1 W (Proc.devRef .tc main_v162) : S101x20000.Idx → EReal) = lapsOut L T 2
    ∧ (after line.1 W (Proc.devRef .tc main_v164) : S101x20000.Idx → EReal) = lapsOut L T 3
    ∧ (after line.1 W (Proc.devRef .tc main_v166) : S101x20000.Idx → EReal) = lapsOut L T 4
    ∧ (after line.1 W (Proc.devRef .tc main_v168) : S101x20000.Idx → EReal) = lapsOut L T 5
    ∧ (after line.1 W (Proc.devRef .tc main_v170) : S101x20000.Idx → EReal) = lapsOut L T 6
    ∧ (after line.1 W (Proc.devRef .tc main_v172) : S101x20000.Idx → EReal) = lapsOut L T 7 := by
  have h := end_61 W L T hL hT
  rw [split_line]
  generalize J (I (H (F (E (D (C (C₁ (C₀ (B (A W)))))))))) = X at h
  have hs := slices X
  have lift : ∀ (g : S101x20000.Idx → EReal) (b : Fin 8), (∀ r n, g (ix2 r n) = (X (Proc.devRef .tc main_v61) : S8x101x20000.Idx → EReal) (ix3 b r n)) → g = lapsOut L T b :=
    fun g b hg => funext fun y => by
      obtain ⟨r, n, rfl⟩ : ∃ r n, y = ix2 r n := ⟨y 0, y 1, eq_ix2 y⟩
      rw [hg, h]; rfl
  exact ⟨lift _ 0 fun r n => (hs r n).1, lift _ 1 fun r n => (hs r n).2.1, lift _ 2 fun r n => (hs r n).2.2.1, lift _ 3 fun r n => (hs r n).2.2.2.1,
    lift _ 4 fun r n => (hs r n).2.2.2.2.1, lift _ 5 fun r n => (hs r n).2.2.2.2.2.1, lift _ 6 fun r n => (hs r n).2.2.2.2.2.2.1, lift _ 7 fun r n => (hs r n).2.2.2.2.2.2.2⟩

end Cert.ReferenceIdeal.Line

end
-- ==== Proof.Pre.lean ====
/- The precondition read: every label is below infinity. -/
module

public import proofs.«01_k».proof.Pre_labels_below_inf
public import Idealize.ShloMosaic.Lib.Pointwise
public import Idealize.ShloMosaic.Lib.IdealHost
public import Idealize.ShloMosaic.Lib.StableHlo.Predicate

@[expose] public section

noncomputable section

namespace Cert.Pre_labels_below_inf

open Idealize.ShloMosaic

/-- The shape relations that the precondition's operations take. -/
theorem facts : Facts where
  bcast_S_S8x100x5 := by decide
  reducesTo_S8x100x5_S_d0_1_2 := by decide
  h_S_ := by decide

/-- A conjunction of bits is one only where each bit is. -/
theorem and_fold {ι : Type} [DecidableEq ι] (S : Finset ι) (f : ι → BitVec 1) (h : S.fold IntOp.andi 1#1 f = 1#1) : ∀ i ∈ S, f i = 1#1 := by
  induction S using Finset.induction_on with
  | empty => intro i hi; exact absurd hi (Finset.notMem_empty i)
  | insert a S ha ih =>
    rw [Finset.fold_insert ha] at h
    have hb : ∀ x y : BitVec 1, IntOp.andi x y = 1#1 → x = 1#1 ∧ y = 1#1 := by decide
    obtain ⟨h1, h2⟩ := hb _ _ h
    intro i hi
    rcases Finset.mem_insert.mp hi with rfl | hi
    · exact h1
    · exact ih h2 i hi

/-- Where the precondition holds every label is below infinity. -/
theorem below [Facts] (L : S8x100x5.Idx → EReal) (D : S20000x4.Idx → EReal) (h : fn (F := Ideal) L D = fun _ => 1#1) (i : S8x100x5.Idx) : L i < ⊤ := by
  have hi := congrFun h (fun a => a.elim0)
  unfold fn at hi
  dsimp only at hi
  rw [Host.reduce_eq_fold] at hi
  have hb := and_fold _ _ hi i (Finset.mem_filter.mpr ⟨Finset.mem_univ _, funext fun a => a.elim0⟩)
  have ht : Ideal.ofBits FTy.f32 0x7F800000#32 = ⊤ := by simp [Ideal.ofBits, Ideal.ieee]
  have hc : BitVec.ofBool (decide (L i < Ideal.ofBits FTy.f32 0x7F800000#32)) = 1#1 := hb
  rw [ht] at hc
  by_contra hn
  rw [decide_eq_false hn] at hc
  exact absurd hc (by decide)

end Cert.Pre_labels_below_inf

end
-- ==== Proof.lean ====
/- The certificate: every claim, put together from the runs of the three programs. -/
module

public import proofs.«01_k».proof.Defs
public import proofs.«01_k».proof.Proof.Frame
public import proofs.«01_k».proof.Proof.KernelRun
public import proofs.«01_k».proof.Proof.RefRun
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL Idealize.SL.Sem Cert.Boxes

/-- The compiled kernel runs, keeps its arguments and leaves every counter at zero. -/
theorem frame_kernel : Cert.quiescent_Kernel (hKernel := Cert.Kernel.Gen.facts) := fun m g _ => Cert.Kernel.Body.frame_run m g

/-- So does the kernel over the extended reals, from any memory. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  θ_run_mono (Cert.KernelIdeal.Body.kernel_run m g) fun _ h => ⟨fun c => ⟨(h.1 c).1, (h.1 c).2.1⟩, h.2⟩

/-- And the reference, from any memory. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  θ_run_mono (Cert.ReferenceIdeal.Line.run m g) fun _ h =>
    ⟨fun c => ⟨(h c _).trans (Cert.ReferenceIdeal.Line.keep_args.1 _), (h c _).trans (Cert.ReferenceIdeal.Line.keep_args.2 _)⟩, sem_eq_zero_of_no_sems rfl _⟩

/-- Over the extended reals kernel and reference compute the same nine results of labels below infinity. -/
theorem algebraic : Cert.algebraic_KernelIdeal_ReferenceIdeal_pre_labels_below_inf (hKernelIdeal := Cert.KernelIdeal.Gen.facts)
    (hReferenceIdeal := Cert.ReferenceIdeal.Gen.facts) (hPre_labels_below_inf := Cert.Pre_labels_below_inf.facts) := by
  intro m g m' g' hpre hagree
  let L := fun c : Dev Cert.KernelIdeal.nD => m ((c.tc : Thread Cert.KernelIdeal.nD Cert.KernelIdeal.τ).loc Cert.KernelIdeal.main_arg0)
  let T := fun c : Dev Cert.KernelIdeal.nD => m ((c.tc : Thread Cert.KernelIdeal.nD Cert.KernelIdeal.τ).loc Cert.KernelIdeal.main_arg1)
  refine ⟨fun c => rowsOut (L c) (T c), fun c => lapsOut (L c) (T c) 0, fun c => lapsOut (L c) (T c) 1, fun c => lapsOut (L c) (T c) 2, fun c => lapsOut (L c) (T c) 3,
    fun c => lapsOut (L c) (T c) 4, fun c => lapsOut (L c) (T c) 5, fun c => lapsOut (L c) (T c) 6, fun c => lapsOut (L c) (T c) 7, ?_, ?_⟩
  · refine θ_run_mono (Cert.KernelIdeal.Body.kernel_run m g) fun _ h c => ?_
    obtain ⟨a0, a1, r0, r⟩ := h.1 c
    have hb := rowsOut2_eq (L c) (T c) fun i =>
      @Cert.Pre_labels_below_inf.below Cert.Pre_labels_below_inf.facts (L c) (T c) (hpre c) i
    exact ⟨r0.trans hb, r.1, r.2.1, r.2.2.1, r.2.2.2.1, r.2.2.2.2.1, r.2.2.2.2.2.1, r.2.2.2.2.2.2.1, r.2.2.2.2.2.2.2, a0, a1⟩
  · refine θ_run_mono (Cert.ReferenceIdeal.Line.run m' g') fun _ h c => ?_
    have h0 := (hagree c).1
    have h1 := (hagree c).2
    obtain ⟨l0, l1, l2, l3, l4, l5, l6, l7⟩ := Cert.ReferenceIdeal.Line.laps_eq (StableHlo.launchContents m' c) (L c) (T c) h0 h1
    exact ⟨(h c _).trans (Cert.ReferenceIdeal.Line.rows_eq (StableHlo.launchContents m' c) (L c) (T c) h0 h1),
      (h c _).trans l0, (h c _).trans l1, (h c _).trans l2, (h c _).trans l3, (h c _).trans l4, (h c _).trans l5, (h c _).trans l6, (h c _).trans l7,
      (h c _).trans (Cert.ReferenceIdeal.Line.keep_args.1 _), (h c _).trans (Cert.ReferenceIdeal.Line.keep_args.2 _)⟩

/-- The five claims. -/
theorem claim : Cert.Claim :=
  ⟨Cert.Kernel.Gen.facts, Cert.KernelIdeal.Gen.facts, Cert.ReferenceIdeal.Gen.facts, Cert.Pre_labels_below_inf.facts,
    frame_kernel, fun m g _ => frame_ideal m g, fun m g _ => frame_ideal m g, fun m g _ => frame_reference m g, fun m g _ => frame_reference m g,
    trivial, algebraic⟩

end Cert.Proof

end
